-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 1024]⟩ ⟨2, ![512, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 1024]⟩ ⟨2, ![512, 8192]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 1024]⟩ ⟨2, ![512, 8192]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512 : Shape := ⟨2, ![64, 512]⟩
abbrev S512x1024 : Shape := ⟨2, ![512, 1024]⟩
abbrev S1024x512 : Shape := ⟨2, ![1024, 512]⟩
abbrev S3x7x64x512 : Shape := ⟨4, ![3, 7, 64, 512]⟩
abbrev S3x64x512 : Shape := ⟨3, ![3, 64, 512]⟩
abbrev S3x7 : Shape := ⟨2, ![3, 7]⟩
abbrev S_ : Shape := ⟨0, ![]⟩
abbrev S64x1024 : Shape := ⟨2, ![64, 1024]⟩
abbrev S1x64x512 : Shape := ⟨3, ![1, 64, 512]⟩
abbrev S1x1 : Shape := ⟨2, ![1, 1]⟩
abbrev S1x1x64x512 : Shape := ⟨4, ![1, 1, 64, 512]⟩

abbrev nBuf : Space → Nat
  | .hbm => 8
  | .vmem => 10
  | .smem => 0
  | _ => 0

abbrev bufTy : (tb : Table) → Fin (tcTables nBuf tb) → BufTy
  | .hbm, ⟨0, _⟩ => ⟨S64x512, .bf16⟩
  | .hbm, ⟨1, _⟩ => ⟨S512x1024, .bf16⟩
  | .hbm, ⟨2, _⟩ => ⟨S512x1024, .bf16⟩
  | .hbm, ⟨3, _⟩ => ⟨S512x1024, .bf16⟩
  | .hbm, ⟨4, _⟩ => ⟨S1024x512, .bf16⟩
  | .hbm, ⟨5, _⟩ => ⟨S1024x512, .bf16⟩
  | .hbm, ⟨6, _⟩ => ⟨S1024x512, .bf16⟩
  | .hbm, ⟨7, _⟩ => ⟨S64x512, .bf16⟩
  | .local _ .vmem, ⟨0, _⟩ => ⟨S64x512, .bf16⟩
  | .local _ .vmem, ⟨1, _⟩ => ⟨S512x1024, .bf16⟩
  | .local _ .vmem, ⟨2, _⟩ => ⟨S1024x512, .bf16⟩
  | .local _ .vmem, ⟨3, _⟩ => ⟨S512x1024, .bf16⟩
  | .local _ .vmem, ⟨4, _⟩ => ⟨S1024x512, .bf16⟩
  | .local _ .vmem, ⟨5, _⟩ => ⟨S512x1024, .bf16⟩
  | .local _ .vmem, ⟨6, _⟩ => ⟨S1024x512, .bf16⟩
  | .local _ .vmem, ⟨7, _⟩ => ⟨S64x512, .bf16⟩
  | .local _ .vmem, ⟨8, _⟩ => ⟨S3x7x64x512, .bf16⟩
  | .local _ .vmem, ⟨9, _⟩ => ⟨S3x64x512, .bf16⟩
  | _, _ => ⟨S64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v19 : BitVec 32 := Scalar.addi v2 c1_i32_10
  let c8_i32_11 : BitVec 32 := 8#32
  let v20 : BitVec 32 := Scalar.remsi v19 c8_i32_11
  let c1_i32_13 : BitVec 32 := 1#32
  let v21 : BitVec 32 := Scalar.muli v20 c1_i32_13
  let v22 : BitVec 32 := Scalar.addi c0_i32 v21
  v22.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v23 : BitVec 32 := Scalar.addi v2 c2_i32
  let c8_i32_14 : BitVec 32 := 8#32
  let v24 : BitVec 32 := Scalar.remsi v23 c8_i32_14
  let c1_i32_16 : BitVec 32 := 1#32
  let v25 : BitVec 32 := Scalar.muli v24 c1_i32_16
  let v26 : BitVec 32 := Scalar.addi c0_i32_17 v25
  v26.toNat
def k0_dev3 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v27 : BitVec 32 := Scalar.addi v2 c3_i32
  let c8_i32_18 : BitVec 32 := 8#32
  let v28 : BitVec 32 := Scalar.remsi v27 c8_i32_18
  let c1_i32_20 : BitVec 32 := 1#32
  let v29 : BitVec 32 := Scalar.muli v28 c1_i32_20
  let v30 : BitVec 32 := Scalar.addi c0_i32_21 v29
  v30.toNat
def k0_dev4 (d0 : Dev nD) : Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v31 : BitVec 32 := Scalar.addi v2 c4_i32
  let c8_i32_22 : BitVec 32 := 8#32
  let v32 : BitVec 32 := Scalar.remsi v31 c8_i32_22
  let c1_i32_24 : BitVec 32 := 1#32
  let v33 : BitVec 32 := Scalar.muli v32 c1_i32_24
  let v34 : BitVec 32 := Scalar.addi c0_i32_25 v33
  v34.toNat
def k0_dev5 (d0 : Dev nD) : Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v35 : BitVec 32 := Scalar.addi v2 c5_i32
  let c8_i32_26 : BitVec 32 := 8#32
  let v36 : BitVec 32 := Scalar.remsi v35 c8_i32_26
  let c1_i32_28 : BitVec 32 := 1#32
  let v37 : BitVec 32 := Scalar.muli v36 c1_i32_28
  let v38 : BitVec 32 := Scalar.addi c0_i32_29 v37
  v38.toNat
def k0_dev6 (d0 : Dev nD) : Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v39 : BitVec 32 := Scalar.addi v2 c6_i32
  let c8_i32_30 : BitVec 32 := 8#32
  let v40 : BitVec 32 := Scalar.remsi v39 c8_i32_30
  let c1_i32_32 : BitVec 32 := 1#32
  let v41 : BitVec 32 := Scalar.muli v40 c1_i32_32
  let v42 : BitVec 32 := Scalar.addi c0_i32_33 v41
  v42.toNat
def k0_dev7 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v43 : BitVec 32 := Scalar.addi v2 c7_i32
  let c8_i32_34 : BitVec 32 := 8#32
  let v44 : BitVec 32 := Scalar.remsi v43 c8_i32_34
  let c1_i32_36 : BitVec 32 := 1#32
  let v45 : BitVec 32 := Scalar.muli v44 c1_i32_36
  let v46 : BitVec 32 := Scalar.addi c0_i32_37 v45
  v46.toNat
def k0_dev8 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_39 : BitVec 32 := 1#32
  let v47 : BitVec 32 := Scalar.addi v2 c1_i32_39
  let c8_i32_40 : BitVec 32 := 8#32
  let v48 : BitVec 32 := Scalar.remsi v47 c8_i32_40
  let c1_i32_48 : BitVec 32 := 1#32
  let v49 : BitVec 32 := Scalar.muli v48 c1_i32_48
  let v50 : BitVec 32 := Scalar.addi c0_i32_49 v49
  v50.toNat
def k0_dev9 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_54 : BitVec 32 := 2#32
  let v59 : BitVec 32 := Scalar.addi v2 c2_i32_54
  let c8_i32_55 : BitVec 32 := 8#32
  let v60 : BitVec 32 := Scalar.remsi v59 c8_i32_55
  let c1_i32_63 : BitVec 32 := 1#32
  let v61 : BitVec 32 := Scalar.muli v60 c1_i32_63
  let v62 : BitVec 32 := Scalar.addi c0_i32_64 v61
  v62.toNat
def k0_dev10 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_69 : BitVec 32 := 3#32
  let v71 : BitVec 32 := Scalar.addi v2 c3_i32_69
  let c8_i32_70 : BitVec 32 := 8#32
  let v72 : BitVec 32 := Scalar.remsi v71 c8_i32_70
  let c1_i32_78 : BitVec 32 := 1#32
  let v73 : BitVec 32 := Scalar.muli v72 c1_i32_78
  let v74 : BitVec 32 := Scalar.addi c0_i32_79 v73
  v74.toNat
def k0_dev11 (d0 : Dev nD) : Nat :=
  let c0_i32_94 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_84 : BitVec 32 := 4#32
  let v83 : BitVec 32 := Scalar.addi v2 c4_i32_84
  let c8_i32_85 : BitVec 32 := 8#32
  let v84 : BitVec 32 := Scalar.remsi v83 c8_i32_85
  let c1_i32_93 : BitVec 32 := 1#32
  let v85 : BitVec 32 := Scalar.muli v84 c1_i32_93
  let v86 : BitVec 32 := Scalar.addi c0_i32_94 v85
  v86.toNat
def k0_dev12 (d0 : Dev nD) : Nat :=
  let c0_i32_109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_99 : BitVec 32 := 5#32
  let v95 : BitVec 32 := Scalar.addi v2 c5_i32_99
  let c8_i32_100 : BitVec 32 := 8#32
  let v96 : BitVec 32 := Scalar.remsi v95 c8_i32_100
  let c1_i32_108 : BitVec 32 := 1#32
  let v97 : BitVec 32 := Scalar.muli v96 c1_i32_108
  let v98 : BitVec 32 := Scalar.addi c0_i32_109 v97
  v98.toNat
def k0_dev13 (d0 : Dev nD) : Nat :=
  let c0_i32_124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_114 : BitVec 32 := 6#32
  let v107 : BitVec 32 := Scalar.addi v2 c6_i32_114
  let c8_i32_115 : BitVec 32 := 8#32
  let v108 : BitVec 32 := Scalar.remsi v107 c8_i32_115
  let c1_i32_123 : BitVec 32 := 1#32
  let v109 : BitVec 32 := Scalar.muli v108 c1_i32_123
  let v110 : BitVec 32 := Scalar.addi c0_i32_124 v109
  v110.toNat
def k0_dev14 (d0 : Dev nD) : Nat :=
  let c0_i32_139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_129 : BitVec 32 := 7#32
  let v119 : BitVec 32 := Scalar.addi v2 c7_i32_129
  let c8_i32_130 : BitVec 32 := 8#32
  let v120 : BitVec 32 := Scalar.remsi v119 c8_i32_130
  let c1_i32_138 : BitVec 32 := 1#32
  let v121 : BitVec 32 := Scalar.muli v120 c1_i32_138
  let v122 : BitVec 32 := Scalar.addi c0_i32_139 v121
  v122.toNat
def k0_dev15 (d0 : Dev nD) : Nat :=
  let c0_i32_291 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_281 : BitVec 32 := 1#32
  let v243 : BitVec 32 := Scalar.addi v2 c1_i32_281
  let c8_i32_282 : BitVec 32 := 8#32
  let v244 : BitVec 32 := Scalar.remsi v243 c8_i32_282
  let c1_i32_290 : BitVec 32 := 1#32
  let v245 : BitVec 32 := Scalar.muli v244 c1_i32_290
  let v246 : BitVec 32 := Scalar.addi c0_i32_291 v245
  v246.toNat
def k0_dev16 (d0 : Dev nD) : Nat :=
  let c0_i32_306 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_296 : BitVec 32 := 2#32
  let v255 : BitVec 32 := Scalar.addi v2 c2_i32_296
  let c8_i32_297 : BitVec 32 := 8#32
  let v256 : BitVec 32 := Scalar.remsi v255 c8_i32_297
  let c1_i32_305 : BitVec 32 := 1#32
  let v257 : BitVec 32 := Scalar.muli v256 c1_i32_305
  let v258 : BitVec 32 := Scalar.addi c0_i32_306 v257
  v258.toNat
def k0_dev17 (d0 : Dev nD) : Nat :=
  let c0_i32_321 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_311 : BitVec 32 := 3#32
  let v267 : BitVec 32 := Scalar.addi v2 c3_i32_311
  let c8_i32_312 : BitVec 32 := 8#32
  let v268 : BitVec 32 := Scalar.remsi v267 c8_i32_312
  let c1_i32_320 : BitVec 32 := 1#32
  let v269 : BitVec 32 := Scalar.muli v268 c1_i32_320
  let v270 : BitVec 32 := Scalar.addi c0_i32_321 v269
  v270.toNat
def k0_dev18 (d0 : Dev nD) : Nat :=
  let c0_i32_336 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_326 : BitVec 32 := 4#32
  let v279 : BitVec 32 := Scalar.addi v2 c4_i32_326
  let c8_i32_327 : BitVec 32 := 8#32
  let v280 : BitVec 32 := Scalar.remsi v279 c8_i32_327
  let c1_i32_335 : BitVec 32 := 1#32
  let v281 : BitVec 32 := Scalar.muli v280 c1_i32_335
  let v282 : BitVec 32 := Scalar.addi c0_i32_336 v281
  v282.toNat
def k0_dev19 (d0 : Dev nD) : Nat :=
  let c0_i32_351 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_341 : BitVec 32 := 5#32
  let v291 : BitVec 32 := Scalar.addi v2 c5_i32_341
  let c8_i32_342 : BitVec 32 := 8#32
  let v292 : BitVec 32 := Scalar.remsi v291 c8_i32_342
  let c1_i32_350 : BitVec 32 := 1#32
  let v293 : BitVec 32 := Scalar.muli v292 c1_i32_350
  let v294 : BitVec 32 := Scalar.addi c0_i32_351 v293
  v294.toNat
def k0_dev20 (d0 : Dev nD) : Nat :=
  let c0_i32_366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_356 : BitVec 32 := 6#32
  let v303 : BitVec 32 := Scalar.addi v2 c6_i32_356
  let c8_i32_357 : BitVec 32 := 8#32
  let v304 : BitVec 32 := Scalar.remsi v303 c8_i32_357
  let c1_i32_365 : BitVec 32 := 1#32
  let v305 : BitVec 32 := Scalar.muli v304 c1_i32_365
  let v306 : BitVec 32 := Scalar.addi c0_i32_366 v305
  v306.toNat
def k0_dev21 (d0 : Dev nD) : Nat :=
  let c0_i32_381 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_371 : BitVec 32 := 7#32
  let v315 : BitVec 32 := Scalar.addi v2 c7_i32_371
  let c8_i32_372 : BitVec 32 := 8#32
  let v316 : BitVec 32 := Scalar.remsi v315 c8_i32_372
  let c1_i32_380 : BitVec 32 := 1#32
  let v317 : BitVec 32 := Scalar.muli v316 c1_i32_380
  let v318 : BitVec 32 := Scalar.addi c0_i32_381 v317
  v318.toNat
def k0_dev22 (d0 : Dev nD) : Nat :=
  let c0_i32_539 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_529 : BitVec 32 := 1#32
  let v439 : BitVec 32 := Scalar.addi v2 c1_i32_529
  let c8_i32_530 : BitVec 32 := 8#32
  let v440 : BitVec 32 := Scalar.remsi v439 c8_i32_530
  let c1_i32_538 : BitVec 32 := 1#32
  let v441 : BitVec 32 := Scalar.muli v440 c1_i32_538
  let v442 : BitVec 32 := Scalar.addi c0_i32_539 v441
  v442.toNat
def k0_dev23 (d0 : Dev nD) : Nat :=
  let c0_i32_554 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_544 : BitVec 32 := 2#32
  let v451 : BitVec 32 := Scalar.addi v2 c2_i32_544
  let c8_i32_545 : BitVec 32 := 8#32
  let v452 : BitVec 32 := Scalar.remsi v451 c8_i32_545
  let c1_i32_553 : BitVec 32 := 1#32
  let v453 : BitVec 32 := Scalar.muli v452 c1_i32_553
  let v454 : BitVec 32 := Scalar.addi c0_i32_554 v453
  v454.toNat
def k0_dev24 (d0 : Dev nD) : Nat :=
  let c0_i32_569 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_559 : BitVec 32 := 3#32
  let v463 : BitVec 32 := Scalar.addi v2 c3_i32_559
  let c8_i32_560 : BitVec 32 := 8#32
  let v464 : BitVec 32 := Scalar.remsi v463 c8_i32_560
  let c1_i32_568 : BitVec 32 := 1#32
  let v465 : BitVec 32 := Scalar.muli v464 c1_i32_568
  let v466 : BitVec 32 := Scalar.addi c0_i32_569 v465
  v466.toNat
def k0_dev25 (d0 : Dev nD) : Nat :=
  let c0_i32_584 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_574 : BitVec 32 := 4#32
  let v475 : BitVec 32 := Scalar.addi v2 c4_i32_574
  let c8_i32_575 : BitVec 32 := 8#32
  let v476 : BitVec 32 := Scalar.remsi v475 c8_i32_575
  let c1_i32_583 : BitVec 32 := 1#32
  let v477 : BitVec 32 := Scalar.muli v476 c1_i32_583
  let v478 : BitVec 32 := Scalar.addi c0_i32_584 v477
  v478.toNat
def k0_dev26 (d0 : Dev nD) : Nat :=
  let c0_i32_599 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_589 : BitVec 32 := 5#32
  let v487 : BitVec 32 := Scalar.addi v2 c5_i32_589
  let c8_i32_590 : BitVec 32 := 8#32
  let v488 : BitVec 32 := Scalar.remsi v487 c8_i32_590
  let c1_i32_598 : BitVec 32 := 1#32
  let v489 : BitVec 32 := Scalar.muli v488 c1_i32_598
  let v490 : BitVec 32 := Scalar.addi c0_i32_599 v489
  v490.toNat
def k0_dev27 (d0 : Dev nD) : Nat :=
  let c0_i32_614 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_604 : BitVec 32 := 6#32
  let v499 : BitVec 32 := Scalar.addi v2 c6_i32_604
  let c8_i32_605 : BitVec 32 := 8#32
  let v500 : BitVec 32 := Scalar.remsi v499 c8_i32_605
  let c1_i32_613 : BitVec 32 := 1#32
  let v501 : BitVec 32 := Scalar.muli v500 c1_i32_613
  let v502 : BitVec 32 := Scalar.addi c0_i32_614 v501
  v502.toNat
def k0_dev28 (d0 : Dev nD) : Nat :=
  let c0_i32_629 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_619 : BitVec 32 := 7#32
  let v511 : BitVec 32 := Scalar.addi v2 c7_i32_619
  let c8_i32_620 : BitVec 32 := 8#32
  let v512 : BitVec 32 := Scalar.remsi v511 c8_i32_620
  let c1_i32_628 : BitVec 32 := 1#32
  let v513 : BitVec 32 := Scalar.muli v512 c1_i32_628
  let v514 : BitVec 32 := Scalar.addi c0_i32_629 v513
  v514.toNat
abbrev stage0_0 : Fin 1 → Memref sig .tc .vmem S64x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S64x512 : Shape := ⟨2, ![64, 512]⟩
abbrev S512x8192 : Shape := ⟨2, ![512, 8192]⟩
abbrev S8192x512 : Shape := ⟨2, ![8192, 512]⟩
abbrev S64x8192 : Shape := ⟨2, ![64, 8192]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S64x512, .bf16⟩
  | .hbm, ⟨1, _⟩ => ⟨S512x8192, .bf16⟩
  | .hbm, ⟨2, _⟩ => ⟨S512x8192, .bf16⟩
  | .hbm, ⟨3, _⟩ => ⟨S512x8192, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S64x8192, .f32⟩
  | .hbm, ⟨8, _⟩ => ⟨S64x8192, .bf16⟩
  | .hbm, ⟨9, _⟩ => ⟨S_, .bf16⟩
  | .hbm, ⟨10, _⟩ => ⟨S64x8192, .bf16⟩
  | .hbm, ⟨11, _⟩ => ⟨S64x8192, .bf16⟩
  | .hbm, ⟨12, _⟩ => ⟨S64x512, .f32⟩
  | .hbm, ⟨13, _⟩ => ⟨S64x512, .bf16⟩
  | .hbm, ⟨14, _⟩ => ⟨S64x8192, .f32⟩
  | .hbm, ⟨15, _⟩ => ⟨S64x8192, .bf16⟩
  | .hbm, ⟨16, _⟩ => ⟨S_, .bf16⟩
  | .hbm, ⟨17, _⟩ => ⟨S64x8192, .bf16⟩
  | .hbm, ⟨18, _⟩ => ⟨S64x8192, .bf16⟩
  | .hbm, ⟨19, _⟩ => ⟨S64x512, .f32⟩
  | .hbm, ⟨20, _⟩ => ⟨S64x512, .bf16⟩
  | .hbm, ⟨21, _⟩ => ⟨S64x8192, .f32⟩
  | .hbm, ⟨22, _⟩ => ⟨S64x8192, .bf16⟩
  | .hbm, ⟨23, _⟩ => ⟨S_, .bf16⟩
  | .hbm, ⟨24, _⟩ => ⟨S64x8192, .bf16⟩
  | .hbm, ⟨25, _⟩ => ⟨S64x8192, .bf16⟩
  | .hbm, ⟨26, _⟩ => ⟨S64x512, .f32⟩
  | .hbm, ⟨27, _⟩ => ⟨S64x512, .bf16⟩
  | _, _ => ⟨S64x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Proof.Cells.lean ====
/-
The protocol of the three-layer all-reduce kernel, stated once for a device `c`.

Each layer's partial product lies in a row of the device's own buffer; seven remote copies carry it to the
seven other devices, each into a slot of its own in the receiver's buffer. Before the first layer's copies every
device tells every other one, on the runtime's barrier semaphore, that its slots may be written.

This module fixes the names: the peers, the rows and slots, the semaphore cells, the values held, the schedule of
the cells and the levels at which they are waited for.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Tactic

@[expose] public section

noncomputable section

namespace Cert.MeshMlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's (duties `Fin 7`, one per sender) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Peers: the device `k + 1` places further on; positions (layer, offset) in the order the copies are issued -/

abbrev P : Type := Fin 3 × Fin 7

def pos (p : P) : ℕ := 7 * p.1.val + p.2.val

set_option backward.proofsInPublic true in
def dec (n : ℕ) : P := (⟨n / 7 % 3, Nat.mod_lt _ (by decide)⟩, ⟨n % 7, Nat.mod_lt _ (by decide)⟩)

theorem pos_lt (p : P) : pos p < 21 := by unfold pos; omega
theorem dec_pos (p : P) : dec (pos p) = p := by revert p; decide
theorem pos_inj {p q : P} (h : pos p = pos q) : p = q := by rw [← dec_pos p, h, dec_pos]
theorem pos_dec {n : ℕ} (h : n < 21) : pos (dec n) = n := by unfold pos dec; dsimp only; omega

set_option backward.proofsInPublic true in
def peer (c : Dev nD) (k : Fin 7) : Dev nD := ⟨(c.val + (k.val + 1)) % 8, Nat.mod_lt _ (by decide)⟩

theorem peer_rev (c : Dev nD) (k : Fin 7) : peer (peer c k) k.rev = c := by revert c k; decide
theorem peer_ne (c : Dev nD) (k : Fin 7) : peer c k ≠ c := by revert c k; decide
theorem peer_inj (c : Dev nD) : Function.Injective (peer c) := by revert c; decide
theorem peer_cover (c d : Dev nD) (h : d ≠ c) : ∃ k, peer c k = d := by revert c d; decide

/-- The device a printed device number names. -/
theorem peer_of (c : Dev nD) (k : Fin 7) {n : ℕ} (h : n < nD) (e : n = (c.val + (k.val + 1)) % 8) : (⟨n, h⟩ : Dev nD) = peer c k := Fin.ext e

/-! ## The rows, the slots, the semaphores -/

abbrev commM : Memref sig .tc .vmem S3x7x64x512 .bf16 := Memref.whole cc0_scratch0
abbrev ownM : Memref sig .tc .vmem S3x64x512 .bf16 := Memref.whole cc0_scratch1

theorem inb_slot (p : P) : ∀ a, (![p.1.val, p.2.val, 0, 0] : Fin 4 → Nat) a + S1x1x64x512.size a ≤ S3x7x64x512.size a := by
  intro a; have h1 := p.1.isLt; have h2 := p.2.isLt
  fin_cases a <;> simp [S1x1x64x512, S3x7x64x512] <;> omega
theorem inb_row (l : Fin 3) : ∀ a, (![l.val, 0, 0] : Fin 3 → Nat) a + S1x64x512.size a ≤ S3x64x512.size a := by
  intro a; have h1 := l.isLt
  fin_cases a <;> simp [S1x64x512, S3x64x512] <;> omega
theorem inb_sem (p : P) : ∀ a, (![p.1.val, p.2.val] : Fin 2 → Nat) a + S1x1.size a ≤ S3x7.size a := by
  intro a; have h1 := p.1.isLt; have h2 := p.2.isLt
  fin_cases a <;> simp [S1x1, S3x7] <;> omega

abbrev slotR (p : P) : Rect S3x7x64x512 := Rect.unit (s := S3x7x64x512) ![p.1.val, p.2.val, 0, 0] S1x1x64x512.size (inb_slot p)
abbrev rowR (l : Fin 3) : Rect S3x64x512 := Rect.unit (s := S3x64x512) ![l.val, 0, 0] S1x64x512.size (inb_row l)

/-- Slot `(l, s)` of the receive buffer: filled in layer `l` by the peer `s`. -/
abbrev slotM (p : P) : Memref sig .tc .vmem S64x512 .bf16 :=
  (commM.slice (slotR p) (fun _ => rfl)).squeeze S64x512 squeezes_S1x1x64x512_S64x512
/-- Row `l` of the device's own buffer. -/
abbrev rowM (l : Fin 3) : Memref sig .tc .vmem S64x512 .bf16 :=
  (ownM.slice (rowR l) (fun _ => rfl)).squeeze S64x512 squeezes_S1x64x512_S64x512

abbrev barS : Sem sig := (SemArray.scalar (sig.barrier 0 rfl) : Sems sig S_).sem

set_option backward.proofsInPublic true in
def sendS (p : P) : DmaSem sig := ⟨8 + pos p, by have := pos_lt p; show 8 + pos p < 50; omega⟩
set_option backward.proofsInPublic true in
def recvS (p : P) : DmaSem sig := ⟨29 + pos p, by have := pos_lt p; show 29 + pos p < 50; omega⟩

abbrev barCell (c : Dev nD) : GSem nD τ sig := ((c : Thread nD τ), .reg barS)
abbrev sendCell (c : Dev nD) (p : P) : GSem nD τ sig := ((c : Thread nD τ), .dma (sendS p))
abbrev recvCell (c : Dev nD) (p : P) : GSem nD τ sig := ((c : Thread nD τ), .dma (recvS p))

/-- The credit of one copy. -/
abbrev N : ℕ := (slotM (0, 0)).view.dmaCredit
theorem N_pos : 0 < N := View.dmaCredit_pos _ (by decide)

theorem slot_amount (p : P) (q : DmaSem sig) : (slotM p).view.amount (.dma q) = N := rfl

/-! ## Contents: a block held at given values, the rest of its buffer named by the launch memory -/

abbrev Blk (F : FTy → Type) : Type := Vec F S64x512 .bf16

/-- Contents of `M`'s buffer that read `v` through `M`. -/
def filled (M : Memref sig .tc .vmem S64x512 .bf16) (c : Dev nD) (v : Blk F) : Buf (Elt F) (M.view.loc (c : Thread nD τ)) :=
  M.view.write (Elt F) (m (M.view.loc (c : Thread nD τ))) v Finset.univ

/-- Block `M` of device `c` holds `v`, at share `q`. -/
def holds (M : Memref sig .tc .vmem S64x512 .bf16) (c : Dev nD) (q : PosShare TreeShare) (v : Blk F) : sProp 𝕄 :=
  M.view.loc (c : Thread nD τ) ↦[M.view.set]{q} filled m M c v

/-- Block `M` of device `c`, whole, at contents nobody has named. -/
def free (M : Memref sig .tc .vmem S64x512 .bf16) (c : Dev nD) : sProp 𝕄 :=
  iprop(∃ f : Buf (Elt F) (M.view.loc (c : Thread nD τ)), M.view.loc (c : Thread nD τ) ↦[M.view.set]{fullShare} f)

omit [FloatOps F] in
theorem read_filled (M : Memref sig .tc .vmem S64x512 .bf16) (c : Dev nD) (v : Blk F) : M.view.read (Elt F) (filled m M c v) = v :=
  View.read_write_univ _ _

omit [FloatOps F] in
theorem holds_of_read (M : Memref sig .tc .vmem S64x512 .bf16) (c : Dev nD) (q : PosShare TreeShare) (v : Blk F)
    (f : Buf (Elt F) (M.view.loc (c : Thread nD τ))) (h : M.view.read (Elt F) f = v) :
    (M.view.loc (c : Thread nD τ) ↦[M.view.set]{q} f : sProp 𝕄) = holds m M c q v := by
  subst h
  refine pointsTo_congr fun i hi => ?_
  obtain ⟨x, -, rfl⟩ := Finset.mem_map.mp hi
  unfold filled
  rw [View.write_emb_of_mem _ _ (Finset.mem_univ x), View.read_apply, cast_cast, cast_eq]

omit [FloatOps F] in
theorem holds_free (M : Memref sig .tc .vmem S64x512 .bf16) (c : Dev nD) (v : Blk F) : holds m M c fullShare v ⊢ free M c := by
  unfold holds free; iintro H; iexists filled m M c v; iexact H

omit [FloatOps F] in
instance holds_storable (M : Memref sig .tc .vmem S64x512 .bf16) (c : Dev nD) (q) (v : Blk F) : BI.Storable (upEmb : UEmb _ 𝕄) (holds m M c q v) := by
  unfold holds; infer_instance
omit [FloatOps F] in
instance free_storable (M : Memref sig .tc .vmem S64x512 .bf16) (c : Dev nD) : BI.Storable (upEmb : UEmb _ 𝕄) (free (F := F) M c) := by
  unfold free; infer_instance

/-! ## Values -/

def xin (c : Dev nD) : Vec F S64x512 .bf16 :=
  (win0_0.blk (0 : Fin 1)).view.read (Elt F) (m ((c : Thread nD τ).loc main_arg0))
def w0 (c : Dev nD) : Vec F S512x1024 .bf16 := (win0_1.blk (0 : Fin 1)).view.read (Elt F) (m ((c : Thread nD τ).loc main_arg1))
def v0 (c : Dev nD) : Vec F S1024x512 .bf16 := (win0_2.blk (0 : Fin 1)).view.read (Elt F) (m ((c : Thread nD τ).loc main_arg4))
def w1 (c : Dev nD) : Vec F S512x1024 .bf16 := (win0_3.blk (0 : Fin 1)).view.read (Elt F) (m ((c : Thread nD τ).loc main_arg2))
def v1 (c : Dev nD) : Vec F S1024x512 .bf16 := (win0_4.blk (0 : Fin 1)).view.read (Elt F) (m ((c : Thread nD τ).loc main_arg5))
def w2 (c : Dev nD) : Vec F S512x1024 .bf16 := (win0_5.blk (0 : Fin 1)).view.read (Elt F) (m ((c : Thread nD τ).loc main_arg3))
def v2 (c : Dev nD) : Vec F S1024x512 .bf16 := (win0_6.blk (0 : Fin 1)).view.read (Elt F) (m ((c : Thread nD τ).loc main_arg6))

/-- The weights of layer `l`. -/
def win : ℕ → Dev nD → Vec F S512x1024 .bf16 | 0 => w0 m | 1 => w1 m | _ => w2 m
def wout : ℕ → Dev nD → Vec F S1024x512 .bf16 | 0 => v0 m | 1 => v1 m | _ => v2 m

/-- One more summand, rounded on its way. -/
def plus (a : FVec F S64x512 .f32) (b : FVec F S64x512 .bf16) : FVec F S64x512 .f32 := addf a (extf .f32 b bitsLt_bf16_f32)
def round (a : FVec F S64x512 .f32) : FVec F S64x512 .bf16 := truncf .bf16 a bitsLt_bf16_f32

/-- The sum of device `c`'s own partial product and the first `n` received, for partial products `q`. -/
def gather (q : Dev nD → FVec F S64x512 .f32) (c : Dev nD) : ℕ → FVec F S64x512 .f32
  | 0 => q c
  | n + 1 => plus (gather q c n) (round (q (peer c (dec n).2)))

/-- What layer `l` reads on device `c`: the input for layer 0, the rounded sum of the previous layer after. -/
def act : ℕ → Dev nD → FVec F S64x512 .bf16
  | 0 => xin m
  | l + 1 => fun c => round (gather (fun d => k0_pay1 (act l d) (win m l d) (wout m l d)) c 7)

/-- Device `c`'s partial product of layer `l`; -/
def partialOf (l : ℕ) (c : Dev nD) : FVec F S64x512 .f32 := k0_pay1 (act m l c) (win m l c) (wout m l c)
/-- as it is sent; -/
def sent (l : ℕ) (c : Dev nD) : FVec F S64x512 .bf16 := round (partialOf m l c)
/-- the running sum after `n` receptions. -/
def acc (l : ℕ) (c : Dev nD) (n : ℕ) : FVec F S64x512 .f32 := gather (partialOf m l) c n

theorem acc_zero (l : ℕ) (c : Dev nD) : acc m l c 0 = partialOf m l c := rfl
theorem acc_succ (l : ℕ) (c : Dev nD) (n : ℕ) : acc m l c (n + 1) = plus (acc m l c n) (sent m l (peer c (dec n).2)) := rfl
theorem act_succ (l : ℕ) (c : Dev nD) : act m (l + 1) c = round (acc m l c 7) := rfl

/-! ## The schedule -/

/-- Duty `s` of `c`'s barrier cell, paid by the peer `s`: that peer's slots for `c`, one per layer. -/
def barPay (c : Dev nD) (s : Fin 7) : sProp 𝕄 :=
  iprop(free (slotM (0, s.rev)) (peer c s) ∗ free (slotM (1, s.rev)) (peer c s) ∗ free (slotM (2, s.rev)) (peer c s))
def recvPay (c : Dev nD) (p : P) : sProp 𝕄 := holds m (slotM p) c fullShare (sent m p.1.val (peer c p.2))
def sendPay (c : Dev nD) (p : P) : sProp 𝕄 := holds m (rowM p.1) c (Transfers.shareTokN fullShare p.2.val) (sent m p.1.val c)

/-- One round: a barrier cell has seven duties of one unit, one per peer; a send or receive cell the one duty of a copy's credit. -/
def sched : Rounds.Schedule (GSem nD τ sig) (Fin 7) 𝕄 where
  duties g r := if r = 0 ∧ g.1.2 = .tc then (match g.2 with
    | .reg s => if s = barS then Finset.univ else ∅
    | .dma q => if 8 ≤ q.val then {0} else ∅) else ∅
  unitless _ := False
  amount g _ _ := match g.2 with | .reg _ => 1 | .dma _ => N
  payload g _ d := match g.2 with
    | .reg _ => barPay g.1.1 d
    | .dma q => if 29 ≤ q.val then recvPay m g.1.1 (dec (q.val - 29)) else sendPay m g.1.1 (dec (q.val - 8))
  amount_pos g _ _ _ := by
    rcases g with ⟨t, s | q⟩
    · exact Nat.one_pos
    · exact N_pos

instance sched_payload_storable (g : GSem nD τ sig) (r : ℕ) (d : Fin 7) :
    BI.Storable (upEmb : UEmb _ 𝕄) ((sched (F := F) m).payload g r d) := by
  rcases g with ⟨t, s | q⟩
  · show BI.Storable upEmb (barPay t.1 d); unfold barPay; infer_instance
  · show BI.Storable upEmb (if 29 ≤ q.val then recvPay m t.1 (dec (q.val - 29)) else sendPay m t.1 (dec (q.val - 8)))
    unfold recvPay sendPay; split <;> infer_instance

section Sched
variable (c : Dev nD) (p : P)

theorem duties_bar : (sched (F := F) m).duties (barCell c) 0 = Finset.univ := by
  dsimp only [sched]; rw [if_pos ⟨rfl, rfl⟩, if_pos rfl]
theorem duties_send : (sched (F := F) m).duties (sendCell c p) 0 = {0} := by
  dsimp only [sched]; rw [if_pos ⟨rfl, rfl⟩]; exact if_pos (Nat.le_add_right 8 _)
theorem duties_recv : (sched (F := F) m).duties (recvCell c p) 0 = {0} := by
  dsimp only [sched]; rw [if_pos ⟨rfl, rfl⟩]; exact if_pos (show 8 ≤ 29 + pos p by omega)
theorem duties_later (g : GSem nD τ sig) : ∀ r, 0 + 1 ≤ r → (sched (F := F) m).duties g r = ∅ :=
  fun r hr => by dsimp only [sched]; rw [if_neg fun h => by omega]

theorem amount_bar (d) : (sched (F := F) m).amount (barCell c) 0 d = 1 := rfl
theorem amount_send (d) : (sched (F := F) m).amount (sendCell c p) 0 d = N := rfl
theorem amount_recv (d) : (sched (F := F) m).amount (recvCell c p) 0 d = N := rfl

theorem expect_bar : (sched (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send : (sched (F := F) m).expect (sendCell c p) 0 = N := by
  unfold Schedule.expect Schedule.amountOf; rw [duties_send, Finset.sum_singleton, amount_send]
theorem expect_recv : (sched (F := F) m).expect (recvCell c p) 0 = N := by
  unfold Schedule.expect Schedule.amountOf; rw [duties_recv, Finset.sum_singleton, amount_recv]

theorem payload_bar (d) : (sched (F := F) m).payload (barCell c) 0 d = barPay c d := rfl
theorem payload_send (d) : (sched (F := F) m).payload (sendCell c p) 0 d = sendPay m c p := by
  have h : (sendS p).val = 8 + pos p := rfl
  have := pos_lt p
  dsimp only [sched]; rw [if_neg (by rw [h]; omega), h, Nat.add_sub_cancel_left, dec_pos]
theorem payload_recv (d) : (sched (F := F) m).payload (recvCell c p) 0 d = recvPay m c p := by
  have h : (recvS p).val = 29 + pos p := rfl
  dsimp only [sched]; rw [if_pos (by rw [h]; omega), h, Nat.add_sub_cancel_left, dec_pos]

theorem rest_bar : bigSep ((sched (F := F) m).duties (barCell c) 0 \ ∅) (fun d => (sched (F := F) m).payload (barCell c) 0 d)
    = bigSep Finset.univ (barPay (F := F) c) := by
  rw [Finset.sdiff_empty, duties_bar]; rfl
theorem rest_send : bigSep ((sched (F := F) m).duties (sendCell c p) 0 \ ∅) (fun d => (sched (F := F) m).payload (sendCell c p) 0 d) = sendPay m c p := by
  rw [Finset.sdiff_empty, duties_send, bigSep_singleton, payload_send]
theorem rest_recv : bigSep ((sched (F := F) m).duties (recvCell c p) 0 \ ∅) (fun d => (sched (F := F) m).payload (recvCell c p) 0 d) = recvPay m c p := by
  rw [Finset.sdiff_empty, duties_recv, bigSep_singleton, payload_recv]

end Sched

/-! ## What a device owes; the levels -/

/-- The cell copy number `n` of device `c` lands on: the peer's, at the slot named for `c` there. -/
def landing (c : Dev nD) (n : ℕ) : GSem nD τ sig := recvCell (peer c (dec n).2) ((dec n).1, (dec n).2.rev)

/-- The copies still to be issued from number `a` on. -/
def owe (c : Dev nD) (a : ℕ) : CellTallies nD τ sig Unit := ∑ n ∈ Finset.Ico a 21, tallyAt (landing c n) () N
/-- and the signals from number `j` on. -/
def oweBar (c : Dev nD) (j : ℕ) : CellTallies nD τ sig Unit := owe c 0 + ∑ n ∈ Finset.Ico j 7, tallyAt (barCell (peer c (dec n).2)) () 1

theorem sum_from {f : ℕ → CellTallies nD τ sig Unit} {a b : ℕ} (h : a < b) :
    ∑ n ∈ Finset.Ico a b, f n = ∑ n ∈ Finset.Ico (a + 1) b, f n + f a := by
  have e : Finset.Ico a b = insert a (Finset.Ico (a + 1) b) := by ext n; simp only [Finset.mem_insert, Finset.mem_Ico]; omega
  rw [e, Finset.sum_insert (by simp), add_comm]

theorem owe_step (c : Dev nD) {a : ℕ} (h : a < 21) : owe c a = owe c (a + 1) + tallyAt (landing c a) () N := by
  unfold owe; rw [sum_from h]
theorem oweBar_step (c : Dev nD) {j : ℕ} (h : j < 7) : oweBar c j = oweBar c (j + 1) + tallyAt (barCell (peer c (dec j).2)) () 1 := by
  unfold oweBar; rw [sum_from h, add_assoc]
theorem owe_end (c : Dev nD) : owe c 21 = 0 := rfl
theorem oweBar_end (c : Dev nD) : oweBar c 7 = owe c 0 := by unfold oweBar; rw [Finset.Ico_self, Finset.sum_empty, add_zero]

def L (g : GSem nD τ sig) : Finset Unit := if g.1.2 = .tc then {()} else ∅
/-- Barrier cells at 1, the receive cells of layer `l` at `l + 2`, staging and send cells at 0. -/
def lv (g : GSem nD τ sig) (_ : Unit) : ℕ := match g.2 with
  | .reg _ => 1
  | .dma q => if 29 ≤ q.val then (q.val - 29) / 7 + 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (c : Dev nD) (p : P) : lv (recvCell c p) () = p.1.val + 2 := by
  have h : (recvS p).val = 29 + pos p := rfl
  dsimp only [lv]; rw [if_pos (by rw [h]; omega), h, Nat.add_sub_cancel_left]; unfold pos; omega
theorem lv_send (c : Dev nD) (p : P) : lv (sendCell c p) () = 0 := by
  have h : (sendS p).val = 8 + pos p := rfl
  have := pos_lt p
  dsimp only [lv]; rw [if_neg (by rw [h]; omega)]

theorem sum_tally_pos {c : Dev nD} {s : Finset ℕ} {f : ℕ → GSem nD τ sig} {N : ℕ} {g : GSem nD τ sig} {u : Unit}
    (h : 0 < (∑ n ∈ s, tallyAt (f n) () N) g u) : ∃ n ∈ s, g = f n := by
  induction s using Finset.induction_on with
  | empty => exact absurd h (Nat.lt_irrefl 0)
  | insert a s ha ih =>
    rw [Finset.sum_insert ha, Pi.add_apply, Finsupp.add_apply, tallyAt_apply] at h
    by_cases hg : g = f a
    · exact ⟨a, Finset.mem_insert_self _ _, hg⟩
    · rw [if_neg fun h' => hg h'.1, zero_add] at h
      obtain ⟨n, hn, e⟩ := ih h
      exact ⟨n, Finset.mem_insert_of_mem hn, e⟩

theorem owe_pos {c : Dev nD} {a : ℕ} {g : GSem nD τ sig} {u : Unit} (h : 0 < owe c a g u) : ∃ n, a ≤ n ∧ n < 21 ∧ g = landing c n := by
  obtain ⟨n, hn, e⟩ := sum_tally_pos (c := c) h
  exact ⟨n, (Finset.mem_Ico.mp hn).1, (Finset.mem_Ico.mp hn).2, e⟩
theorem oweBar_pos {c : Dev nD} {j : ℕ} {g : GSem nD τ sig} {u : Unit} (h : 0 < oweBar c j g u) :
    (∃ n, n < 21 ∧ g = landing c n) ∨ ∃ n, g = barCell (peer c (dec n).2) := by
  unfold oweBar at h
  rw [Pi.add_apply, Finsupp.add_apply] at h
  rcases Nat.add_pos_iff_pos_or_pos.mp h with h | h
  · obtain ⟨n, -, hn, e⟩ := owe_pos h; exact .inl ⟨n, hn, e⟩
  · obtain ⟨n, -, e⟩ := sum_tally_pos (c := c) h; exact .inr ⟨n, e⟩

theorem lv_landing (c : Dev nD) {n : ℕ} (hn : n < 21) : lv (landing c n) () = n / 7 + 2 := by
  unfold landing; rw [lv_recv]; unfold dec; dsimp only; omega

/-- A wait at level `b` while the copies from number `a` on are owed, all of layers above it. -/
theorem mayWait_owe (c : Dev nD) (sm : SemLoc sig) (a b : ℕ) (hb : lv ((c : Thread nD τ), sm) () ≤ b) (hab : b < a / 7 + 2) :
    (levAts L lv : sProp 𝕄) ⊢ MayWait (c : Thread nD τ) sm () (owe c a) :=
  MayOwe.of_cut (L := L) (lev := lv) b (fun p hp => by rw [Finset.mem_singleton.mp hp, L_tc]; exact Finset.mem_singleton_self _)
    (fun g u hg => by obtain ⟨n, -, -, rfl⟩ := owe_pos hg; exact Finset.mem_singleton_self _)
    (fun p hp => by rw [Finset.mem_singleton.mp hp]; exact hb)
    (fun g u hg => by
      obtain ⟨n, ha, hn, rfl⟩ := owe_pos hg
      rw [lv_landing c hn]; omega)

theorem mayWait_stage (c : Dev nD) (q : DmaSem sig) (hq : q.val < 29) (O : CellTallies nD τ sig Unit) (hO : O = oweBar c 0 ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases oweBar_pos hg with ⟨n, -, rfl⟩ | ⟨n, rfl⟩ <;> exact Finset.mem_singleton_self _)
      (fun p hp => by rw [Finset.mem_singleton.mp hp]; dsimp only [lv]; rw [if_neg (by omega)])
      (fun g u hg => by
        rcases oweBar_pos hg with ⟨n, hn, rfl⟩ | ⟨n, rfl⟩
        · rw [lv_landing c hn]; omega
        · rw [lv_bar]; decide)
  · rw [MayWait_zero]; iintro -; iempintro

end Cert.MeshMlp
-- ==== Proof.Steps.lean ====
/-
The kernel's steps, each stated once for any layer and any offset.

A device's progress is counted: the signals given, the copies issued, the receptions waited for, the sends waited
for. What is held of the work still to do and of the work done is a conjunction over an interval of numbers, and a
step moves one number from the one to the other.
-/
module

public import proofs.«01_k».proof.Proof.Cells
public import Idealize.SL.BI.BigOpNat

@[expose] public section

noncomputable section

namespace Cert.MeshMlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem sep_join {I : Type} (s : Finset I) (Φ Ψ : I → sProp 𝕄) : iprop(bigSep s Φ ∗ bigSep s Ψ) ⊢ bigSep s fun i => iprop(Φ i ∗ Ψ i) :=
  Entails.of_eq (bigSep_sep s Φ Ψ).symm
omit [FloatOps F] in
theorem sep_part {I : Type} (s : Finset I) (Φ Ψ : I → sProp 𝕄) : (bigSep s fun i => iprop(Φ i ∗ Ψ i)) ⊢ iprop(bigSep s Φ ∗ bigSep s Ψ) :=
  Entails.of_eq (bigSep_sep s Φ Ψ)

/-! ## All the cells, and what every device knows of them -/

/-- A device's cells: its barrier, its sends, its receives. -/
abbrev CI : Type := Option (Bool × P)
abbrev csem : CI → SemLoc sig
  | none => .reg barS
  | some (false, p) => .dma (sendS p)
  | some (true, p) => .dma (recvS p)
abbrev kcell (x : Dev nD × CI) : GSem nD τ sig := ((x.1 : Thread nD τ), csem x.2)

/-- Every cell's invariant, at the names `K`, that its round is reached, and the levels. -/
def known (K : Dev nD × CI → ℕ) : sProp 𝕄 :=
  iprop((bigSep Finset.univ fun x => iprop(cellInv ER (sched m) (K x) (kcell x) ∗ reached ER (kcell x) 0)) ∗ levAts L lv)

instance known_persistent (K : Dev nD × CI → ℕ) : BI.Persistent (known m K) := by unfold known; infer_instance

variable (K : Dev nD × CI → ℕ)

theorem known_cell (x : Dev nD × CI) : known m K ⊢ iprop(cellInv ER (sched m) (K x) (kcell x) ∗ reached ER (kcell x) 0) := by
  unfold known
  iintro ⟨H, -⟩
  iapply (show _ ⊢ _ from bigSep_elim (Φ := fun x => iprop(cellInv ER (sched m) (K x) (kcell x) ∗ reached ER (kcell x) 0)) (Finset.mem_univ x)) $$ H
theorem known_levels : known m K ⊢ levAts L lv := by
  unfold known; iintro ⟨-, H⟩; iexact H

abbrev 𝒱₀ : Variants := Variants.none
/-- A program of device `c` run to `Q`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The barrier -/

/-- A device's own slots for offset `k`, in the three layers, free. -/
def give (c : Dev nD) (k : Fin 7) : sProp 𝕄 :=
  iprop(free (slotM (0, k)) c ∗ free (slotM (1, k)) c ∗ free (slotM (2, k)) c)

/-- `j` signals given. -/
def Greet (c : Dev nD) (j : ℕ) : sProp 𝕄 :=
  iprop((∃ W, owes (c : Thread nD τ) (oweBar c j) W)
    ∗ bigSep (Finset.Ico j 7) fun n => iprop(dutyTok ER (barCell (peer c (dec n).2)) 0 (dec n).2.rev ∗ give (F := F) c (dec n).2))

theorem barPay_peer (c : Dev nD) (k : Fin 7) : barPay (F := F) (peer c k) k.rev = give c k := by
  unfold barPay give; rw [Fin.rev_rev, peer_rev]

theorem wp_greet (c : Dev nD) (j : ℕ) (hj : j < 7) {n : Dev nD} (hn : n = peer c (dec j).2) {s : Sem sig} (hs : s = barS) {i : ℤ} (hi : i = ((1 : ℕ) : ℤ))
    {α : Type} {Q : α → sProp 𝕄} {k : PUnit → Prog (TpuEff nD τ sig (Elt F) Λ₀ .tc) α} :
    iprop(known m K ∗ Greet c j) ⊢ iprop((Greet c (j + 1) -∗ run c (k ⟨⟩) Q) -∗ run c (.op (.semSignal (n, .tc) s i) k) Q) := by
  subst hn hs hi
  unfold Greet
  rw [bigSep_Ico_succ_bot hj]
  iintro ⟨#HK, ⟨⟨%W, HO⟩, Hb⟩⟩ Hk
  icases Hb with ⟨⟨Ht, Hg⟩, Hb⟩
  ihave Hq := (known_cell m K (peer c (dec j).2, none)) $$ HK
  icases Hq with ⟨#HI, #Hr⟩
  iapply (Rounds.wp_signal 𝒱₀ ER (sched m) (c : Thread nD τ) none (dst := (peer c (dec j).2 : Thread nD τ)) (κ := K (peer c (dec j).2, none))
      (d := (dec j).2.rev) (by rw [duties_bar]; exact Finset.mem_univ _) (amount_bar m _ _) () (oweBar c (j + 1)) (oweBar_step c hj))
    $$ [HO Ht Hg]
  · isplitr; · iexact HI
    isplitl [HO]; · iexact HO
    isplitl [Ht]; · iexact Ht
    isplitl [Hg]; · rw [payload_bar, barPay_peer]; iexact Hg
    iexact Hr
  iintro HO
  iapply Hk
  isplitl [HO]; · iexists W; iexact HO
  iexact Hb

/-! ## The copies -/

/-- Row `l` of device `c` holds its partial product of layer `l`, `k` read shares of it gone. -/
def row (c : Dev nD) (l : Fin 3) (k : ℕ) : sProp 𝕄 := holds m (rowM l) c (shareDrop fullShare k) (sent m l.val c)

/-- What copy number `n` takes: the two duties it pays and the slot it fills. -/
def todo (c : Dev nD) (n : ℕ) : sProp 𝕄 :=
  iprop(dutyTok ER (sendCell c (dec n)) 0 0 ∗ dutyTok ER (landing c n) 0 0 ∗ free (F := F) (slotM ((dec n).1, (dec n).2.rev)) (peer c (dec n).2))

/-- `a` copies issued, `r` receptions waited for. -/
def Busy (c : Dev nD) (a r : ℕ) : sProp 𝕄 :=
  iprop((∃ W, owes (c : Thread nD τ) (owe c a) W)
    ∗ (bigSep (Finset.Ico a 21) fun n => todo (F := F) c n)
    ∗ (bigSep (Finset.Ico 0 a) fun n => cred (tallyAt (sendCell c (dec n)) () N))
    ∗ (bigSep (Finset.Ico r 21) fun n => iprop(atPos ER (recvCell c (dec n)) 0 ∅ 0 ∗ cred (tallyAt (recvCell c (dec n)) () N)))
    ∗ bigSep (Finset.Ico 0 r) fun n => iprop(semVal (recvCell c (dec n)) 0 ∗ recvPay m c (dec n)))

theorem row_share (c : Dev nD) (l : Fin 3) (k : ℕ) :
    row m c l k ⊢ iprop(row m c l (k + 1) ∗ holds m (rowM l) c (shareTokN fullShare k) (sent m l.val c)) :=
  (pointsTo_share (PosShare.mem_left_op_right _)).1

theorem wp_copy (c : Dev nD) (a r : ℕ) (l : Fin 3) (k : ℕ) (hk : k < 7) (ha : a < 21) (hp : dec a = (l, ⟨k, hk⟩))
    {n : Dev nD} (hn : n = peer c ⟨k, hk⟩)
    {src dst : Memref sig .tc .vmem S64x512 .bf16} (hsrc' : src = rowM l) (hdst' : dst = slotM (l, (⟨k, hk⟩ : Fin 7).rev))
    {s₁ s₂ : DmaSem sig} (hs₁ : s₁ = sendS (l, ⟨k, hk⟩)) (hs₂ : s₂ = recvS (l, (⟨k, hk⟩ : Fin 7).rev))
    {hsc : (dst : Memref sig (Dev.tc n : Thread nD τ).2.kind .vmem S64x512 .bf16).view.ref.isScScratch = false}
    {hsrc : src.view.WordExact} {hdst : dst.view.WordExact}
    {hsem : DmaTarget.Typed .vmem (.dma s₂) (.remote (Dev.tc n : Thread nD τ) dst (.dma s₁) hsc)}
    {α : Type} {Q : α → sProp 𝕄} {kt : PUnit → Prog (TpuEff nD τ sig (Elt F) Λ₀ .tc) α} :
    iprop(known m K ∗ Busy m c a r ∗ row m c l k)
      ⊢ iprop(((Busy m c (a + 1) r ∗ row m c l (k + 1)) -∗ run c (kt ⟨⟩) Q)
          -∗ run c (.op (.enqueueDma src (.remote (Dev.tc n : Thread nD τ) dst (.dma s₁) hsc) (.dma s₂) hsrc hdst hsem) kt) Q) := by
  subst hn hsrc' hdst' hs₁ hs₂
  unfold Busy
  rw [bigSep_Ico_succ_bot ha, bigSep_Ico_succ_top (Nat.zero_le a)]
  iintro ⟨#HK, ⟨⟨%W, HO⟩, ⟨Hn, Ht⟩, Hc, Hr, Hd⟩, Hrow⟩ Hk
  ihave Hn := (Entails.of_eq (show todo (F := F) c a = iprop(dutyTok ER (sendCell c (l, ⟨k, hk⟩)) 0 0
    ∗ dutyTok ER (recvCell (peer c ⟨k, hk⟩) (l, (⟨k, hk⟩ : Fin 7).rev)) 0 0 ∗ free (F := F) (slotM (l, (⟨k, hk⟩ : Fin 7).rev)) (peer c ⟨k, hk⟩))
    by unfold todo landing; rw [hp])) $$ Hn
  unfold free
  icases Hn with ⟨HtS, HtR, ⟨%fd, Hslot⟩⟩
  ihave Hq := (known_cell m K (c, some (false, (l, ⟨k, hk⟩)))) $$ HK
  icases Hq with ⟨#HIs, #Hrs⟩
  ihave Hq := (known_cell m K (peer c ⟨k, hk⟩, some (true, (l, (⟨k, hk⟩ : Fin 7).rev)))) $$ HK
  icases Hq with ⟨#HIr, #Hrr⟩
  ihave Hq := (row_share m c l k) $$ Hrow
  icases Hq with ⟨Hrow, Hsrc⟩
  unfold holds
  iapply (Rounds.wp_send_pointsTo 𝒱₀ ER (sched m) (c : Thread nD τ) none (κ₁ := K (c, some (false, (l, ⟨k, hk⟩))))
    (κ₂ := K (peer c ⟨k, hk⟩, some (true, (l, (⟨k, hk⟩ : Fin 7).rev))))
    (r₁ := 0) (r₂ := 0) (d₁ := 0) (d₂ := 0) (fd := fd)
    (by rw [duties_send]; exact Finset.mem_singleton_self _) (by rw [duties_recv]; exact Finset.mem_singleton_self _)
    () () N rfl (amount_send m c _ 0) (amount_recv m (peer c ⟨k, hk⟩) _ 0) (O₀ := owe c a) (owe c (a + 1)) (by rw [owe_step c ha]; unfold landing; rw [hp]) (W := W)
    (by rw [payload_send]; exact BI.Entails.refl _)
    (by
      rw [payload_recv]; unfold recvPay; rw [peer_rev]
      exact Entails.of_eq (holds_of_read m _ _ _ _ _ ((View.read_write_univ _ _).trans (read_filled m _ _ _))))) $$ [Hsrc Hslot HO HtS HtR]
  · isplitr; · iexact HIs
    isplitr; · iexact HIr
    isplitl [Hsrc]; · iexact Hsrc
    isplitl [Hslot]; · iexact Hslot
    isplitl [HO]; · iexact HO
    isplitl [HtS]; · iexact HtS
    isplitr; · iexact Hrs
    isplitl [HtR]; · iexact HtR
    iexact Hrr
  iintro ⟨HcS, HO⟩
  iapply Hk
  isplitr [Hrow]
  · isplitl [HO]; · iexists W; iexact HO
    isplitl [Ht]; · iexact Ht
    isplitl [Hc HcS]
    · isplitl [HcS]; · rw [hp]; iexact HcS
      iexact Hc
    isplitl [Hr]; · iexact Hr
    iexact Hd
  · iexact Hrow

/-! ## The receptions -/

theorem wp_receive (c : Dev nD) (a r : ℕ) (hr : r < 21) (hra : r / 7 < a / 7 ∨ a = 21) {s : DmaSem sig} (hs : s = recvS (dec r))
    {src dst : Memref sig .tc .vmem S64x512 .bf16} (hN : dst.view.dmaCredit = N) {hsrc : src.view.WordExact} {hdst : dst.view.WordExact}
    {α : Type} {Q : α → sProp 𝕄} {k : PUnit → Prog (TpuEff nD τ sig (Elt F) Λ₀ .tc) α} :
    iprop(known m K ∗ Busy m c a r)
      ⊢ iprop((Busy m c a (r + 1) -∗ run c (k ⟨⟩) Q) -∗ run c (.op (.waitDma2 s src dst hsrc hdst) k) Q) := by
  subst hs
  unfold Busy
  rw [bigSep_Ico_succ_bot hr, bigSep_Ico_succ_top (Nat.zero_le r)]
  iintro ⟨#HK, ⟨⟨%W, HO⟩, Ht, Hc, Hr, Hd⟩⟩ Hk
  icases Hr with ⟨⟨Hat, Hcr⟩, Hr⟩
  ihave Hq := (known_cell m K (c, some (true, dec r))) $$ HK
  icases Hq with ⟨#HI, -⟩
  iapply (Rounds.wp_wait_rest_token 𝒱₀ ER (sched m) (c : Thread nD τ) none (κ := K (c, some (true, dec r)))
      (wpE_waitDma2_eq 𝒱₀ (c : Thread nD τ) none Set.univ) (Set.mem_univ _) () (O := owe c a) (W := W) (R := 0) (m := 0) (T := ∅)
      (by rw [Nat.zero_add, hN, expect_recv])) $$ [Hcr HO Hat]
  · isplitr; · iexact HI
    isplitl [Hcr]; · rw [hN]; iexact Hcr
    isplitl [HO]; · iexact HO
    isplitr
    · rcases hra with h | h
      · iapply (mayWait_owe (F := F) c (.dma (recvS (dec r))) a (r / 7 + 2) (by rw [lv_recv]; unfold dec; dsimp only; omega) (by omega))
        iapply (known_levels m K) $$ HK
      · subst h; rw [owe_end, MayWait_zero]; iempintro
    iexact Hat
  iintro ⟨HO, Hat, -, Hpay⟩
  ihave Hpay := (Entails.of_eq (rest_recv m c (dec r))) $$ Hpay
  imod (Rounds.cell_close ER (sched m) (Set.mem_univ (K (c, some (true, dec r)))) (fun h => h) (R := 0 + 1) (duties_later m (recvCell c (dec r)))) $$ [Hat] with Hz
  · isplitr; · iexact HI
    iexact Hat
  iapply Hk
  isplitl [HO]; · iexists _; iexact HO
  isplitl [Ht]; · iexact Ht
  isplitl [Hc]; · iexact Hc
  isplitl [Hr]; · iexact Hr
  isplitr [Hd]
  · isplitl [Hz]; · iexact Hz
    iexact Hpay
  iexact Hd

theorem casts_slot : S64x512.ShapeCasts S1x1x64x512 := by decide
/-- What a load of a slot reads: the block, given its two unit axes. -/
def slotVal (v : Blk F) : Vec F S1x1x64x512 .bf16 := shapeCast S1x1x64x512 v casts_slot

omit [FloatOps F] in
theorem slotVal_back (v : Blk F) (h : S1x1x64x512.ShapeCasts S64x512) : shapeCast S64x512 (slotVal v) h = v := shapeCast_shapeCast _ _ _

omit [FloatOps F] in
theorem slot_load (p : P) (c : Dev nD) (v : Blk F) :
    commM.view.readAt (Elt F) (slotR p).toLoadRect (filled m (slotM p) c v) = slotVal v := by
  have h := (Memref.read_squeeze_slice (Val := Elt F) commM (slotR p) (fun _ => rfl) squeezes_S1x1x64x512_S64x512
    shapeCasts_S1x1x64x512_S64x512 (filled m (slotM p) c v)).symm.trans (read_filled m (slotM p) c v)
  have e := congrArg slotVal h
  unfold slotVal at e
  rw [shapeCast_shapeCast] at e
  exact e

omit [FloatOps F] in
theorem slot_setOn (p : P) : commM.view.setOn (slotR p).toLoadRect.set ⊆ (slotM p).view.set := by
  rw [View.set_reshape]
  exact (View.set_slice _ _).ge

/-- A load of a slot already waited for. -/
theorem wp_read (c : Dev nD) (a r n : ℕ) (hn : n < r) {off : Fin 4 → ℕ} (hoff : off = ![(dec n).1.val, (dec n).2.val, 0, 0])
    {inb : ∀ a, off a + S1x1x64x512.size a ≤ S3x7x64x512.size a}
    {hl : commM.view.LoadsAt (Rect.unit (s := S3x7x64x512) off S1x1x64x512.size inb).toLoadRect}
    {α : Type} {Q : α → sProp 𝕄} {k : Vec F S1x1x64x512 .bf16 → Prog (TpuEff nD τ sig (Elt F) Λ₀ .tc) α} :
    Busy m c a r ⊢ iprop((Busy m c a r -∗ run c (k (slotVal (sent m (dec n).1.val (peer c (dec n).2)))) Q)
      -∗ run c (.op (.load commM (Rect.unit (s := S3x7x64x512) off S1x1x64x512.size inb).toLoadRect hl) k) Q) := by
  subst hoff
  unfold Busy
  rw [show (bigSep (Finset.Ico 0 r) fun n => iprop(semVal (recvCell c (dec n)) 0 ∗ recvPay m c (dec n)) : sProp 𝕄) = iprop((semVal (recvCell c (dec n)) 0
    ∗ recvPay m c (dec n)) ∗ bigSep ((Finset.Ico 0 r).erase n) fun n => iprop(semVal (recvCell c (dec n)) 0 ∗ recvPay m c (dec n)))
    from bigSep_erase (Finset.mem_Ico.mpr ⟨Nat.zero_le _, hn⟩)]
  iintro ⟨HO, Ht, Hc, Hr, ⟨Hz, Hp⟩, Hd⟩ Hk
  unfold recvPay holds
  iapply (wp_load 𝒱₀ (c : Thread nD τ) none Set.univ (m := commM) (slot_setOn (dec n))) $$ Hp
  iintro Hp
  rw [show commM.view.readAt (Elt F) (Rect.unit (s := S3x7x64x512) ![(dec n).1.val, (dec n).2.val, 0, 0] S1x1x64x512.size inb).toLoadRect
      (filled m (slotM (dec n)) c (sent m (dec n).1.val (peer c (dec n).2))) = _ from slot_load m (dec n) c _]
  iapply Hk
  isplitl [HO]; · iexact HO
  isplitl [Ht]; · iexact Ht
  isplitl [Hc]; · iexact Hc
  isplitl [Hr]; · iexact Hr
  isplitr [Hd]
  · isplitl [Hz] <;> iassumption
  iexact Hd

/-! ## The rows written -/

omit [FloatOps F] in
theorem row_setOn (l : Fin 3) : ownM.view.setOn (rowR l).toLoadRect.set ⊆ (rowM l).view.set := by
  rw [View.set_reshape]
  exact (View.set_slice _ _).ge

/-- A load of a row not read further. -/
theorem wp_peek (c : Dev nD) (l : Fin 3) {off : Fin 3 → ℕ} (hoff : off = ![l.val, 0, 0])
    {inb : ∀ a, off a + S1x64x512.size a ≤ S3x64x512.size a}
    {hl : ownM.view.LoadsAt (Rect.unit (s := S3x64x512) off S1x64x512.size inb).toLoadRect}
    {α : Type} {Q : α → sProp 𝕄} {k : Vec F S1x64x512 .bf16 → Prog (TpuEff nD τ sig (Elt F) Λ₀ .tc) α} :
    free (rowM l) c ⊢ iprop((∀ x, free (rowM l) c -∗ run c (k x) Q)
      -∗ run c (.op (.load ownM (Rect.unit (s := S3x64x512) off S1x64x512.size inb).toLoadRect hl) k) Q) := by
  subst hoff
  unfold free
  iintro ⟨%f, Hp⟩ Hk
  iapply (wp_load 𝒱₀ (c : Thread nD τ) none Set.univ (m := ownM) (row_setOn l)) $$ Hp
  iintro Hp
  iapply Hk $$ %_
  iexists f
  iexact Hp

/-- The store of a layer's partial product. -/
theorem wp_put (c : Dev nD) (l : Fin 3) {off : Fin 3 → ℕ} (hoff : off = ![l.val, 0, 0])
    {inb : ∀ a, off a + S1x64x512.size a ≤ S3x64x512.size a} {w : Vec F S1x64x512 .bf16}
    (hw : w = shapeCast S1x64x512 (sent m l.val c) shapeCasts_S64x512_S1x64x512)
    {hx : (ownM.access (Rect.unit (s := S3x64x512) off S1x64x512.size inb)).Stores Finset.univ}
    {hm : (Finset.univ : Finset (Rect.unit (s := S3x64x512) off S1x64x512.size inb).shape.Idx) = Finset.univ ∨ ∀ a, (Rect.unit (s := S3x64x512) off S1x64x512.size inb).stride a = 1}
    {α : Type} {Q : α → sProp 𝕄} {k : PUnit → Prog (TpuEff nD τ sig (Elt F) Λ₀ .tc) α} :
    free (rowM l) c ⊢ iprop((row m c l 0 -∗ run c (k ⟨⟩) Q)
      -∗ run c (.op (.store ownM (Rect.unit (s := S3x64x512) off S1x64x512.size inb) w Finset.univ hx hm) k) Q) := by
  subst hoff
  unfold free
  iintro ⟨%f, Hp⟩ Hk
  iapply (wp_store 𝒱₀ (c : Thread nD τ) none Set.univ (m := ownM) (r := rowR l) (Mk := Finset.univ) (S := (rowM l).view.set)
    (by rw [View.set_reshape]; exact subset_rfl)) $$ Hp
  iintro Hp
  iapply Hk
  unfold row
  rw [← holds_of_read m (rowM l) c (shareDrop fullShare 0) (sent m l.val c) ((ownM.access (rowR l)).write (Elt F) f w Finset.univ)
    ((Memref.read_squeeze_slice (Val := Elt F) ownM (rowR l) (fun _ => rfl) squeezes_S1x64x512_S64x512 shapeCasts_S1x64x512_S64x512 _).trans
      ((congrArg (fun x => shapeCast S64x512 x shapeCasts_S1x64x512_S64x512)
        ((View.read_write_univ (v := ownM.access (rowR l)) f w).trans hw)).trans (shapeCast_shapeCast _ _ _)))]
  iexact Hp

/-! ## The barrier's wait -/

omit [FloatOps F] in
/-- A conjunction over the positions is one over their numbers. -/
theorem bigSep_pos (Φ : P → sProp 𝕄) : bigSep Finset.univ Φ = bigSep (Finset.Ico 0 21) fun n => Φ (dec n) := by
  have e : (Finset.univ : Finset P) = (Finset.Ico 0 21).image dec := by decide
  rw [e, bigSep_image_of_injOn]
  intro a ha b hb h
  have h1 := (Finset.mem_Ico.mp (Finset.mem_coe.mp ha)).2
  have h2 := (Finset.mem_Ico.mp (Finset.mem_coe.mp hb)).2
  rw [← pos_dec h1, h, pos_dec h2]
omit [FloatOps F] in
theorem bigSep_seven (Φ : Fin 7 → sProp 𝕄) : bigSep Finset.univ Φ = bigSep (Finset.Ico 0 7) fun n => Φ (dec n).2 := by
  have e : (Finset.univ : Finset (Fin 7)) = (Finset.Ico 0 7).image fun n => (dec n).2 := by decide
  rw [e, bigSep_image_of_injOn]
  intro a ha b hb h
  have h1 := (Finset.mem_Ico.mp (Finset.mem_coe.mp ha)).2
  have h2 := (Finset.mem_Ico.mp (Finset.mem_coe.mp hb)).2
  have h3 := congrArg Fin.val h
  simp only [dec] at h3
  omega
omit [FloatOps F] in
theorem bigSep_three (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

omit [FloatOps F] in
/-- What the seven signals hand over: the slot of each copy to come. -/
theorem given (c : Dev nD) : bigSep Finset.univ (barPay (F := F) c)
    = bigSep (Finset.Ico 0 21) fun n => free (F := F) (slotM ((dec n).1, (dec n).2.rev)) (peer c (dec n).2) := by
  rw [← bigSep_pos fun p => free (F := F) (slotM (p.1, p.2.rev)) (peer c p.2), bigSep_univ_prod, bigSep_univ_comm]
  refine bigSep_congr fun s _ => ?_
  rw [bigSep_three]; rfl

theorem todo_intro (c : Dev nD) (n : ℕ) : iprop((dutyTok ER (sendCell c (dec n)) 0 0 ∗ dutyTok ER (landing c n) 0 0)
    ∗ free (F := F) (slotM ((dec n).1, (dec n).2.rev)) (peer c (dec n).2)) ⊢ todo (F := F) c n := by
  unfold todo
  iintro ⟨⟨H1, H2⟩, H3⟩
  isplitl [H1]; · iexact H1
  isplitl [H2] <;> iassumption

/-- What a device holds before its signals are answered, besides what it signals with. -/
def Idle (c : Dev nD) : sProp 𝕄 :=
  iprop(atPos ER (barCell c) 0 ∅ 0 ∗ cred (tallyAt (barCell c) () 7)
    ∗ (bigSep (Finset.Ico 0 21) fun n => iprop(dutyTok ER (sendCell c (dec n)) 0 0 ∗ dutyTok ER (landing c n) 0 0))
    ∗ bigSep (Finset.Ico 0 21) fun n => iprop(atPos ER (recvCell c (dec n)) 0 ∅ 0 ∗ cred (tallyAt (recvCell c (dec n)) () N)))

theorem wp_answered (c : Dev nD) {s : Sem sig} (hs : s = barS) {i : ℤ} (hi : i = ((7 : ℕ) : ℤ))
    {α : Type} {Q : α → sProp 𝕄} {k : PUnit → Prog (TpuEff nD τ sig (Elt F) Λ₀ .tc) α} :
    iprop(known m K ∗ Greet c 7 ∗ Idle c)
      ⊢ iprop(((Busy m c 0 0 ∗ semVal (barCell c) 0) -∗ run c (k ⟨⟩) Q) -∗ run c (.op (.semWait s i) k) Q) := by
  subst hs hi
  unfold Greet Idle Busy
  rw [oweBar_end, show (Finset.Ico 7 7 : Finset ℕ) = ∅ from rfl, show (Finset.Ico 0 0 : Finset ℕ) = ∅ from rfl, bigSep_empty, bigSep_empty, bigSep_empty]
  iintro ⟨#HK, ⟨⟨%W, HO⟩, -⟩, Hat, Hcr, Ht, Hr⟩ Hk
  ihave Hq := (known_cell m K (c, none)) $$ HK
  icases Hq with ⟨#HI, -⟩
  iapply (Rounds.wp_wait_rest_token 𝒱₀ ER (sched m) (c : Thread nD τ) none (κ := K (c, none))
      (wpE_semWait_eq 𝒱₀ (c : Thread nD τ) none Set.univ) (Set.mem_univ _) () (O := owe c 0) (W := W) (R := 0) (m := 0) (T := ∅)
      (by rw [Nat.zero_add, expect_bar])) $$ [Hcr HO Hat]
  · isplitr; · iexact HI
    isplitl [Hcr]; · iexact Hcr
    isplitl [HO]; · iexact HO
    isplitr
    · iapply (mayWait_owe (F := F) c (.reg barS) 0 1 (le_of_eq (lv_bar c)) (by decide))
      iapply (known_levels m K) $$ HK
    iexact Hat
  iintro ⟨HO, Hat, -, Hpay⟩
  ihave Hpay := (Entails.of_eq ((rest_bar m c).trans (given c))) $$ Hpay
  imod (Rounds.cell_close ER (sched m) (Set.mem_univ (K (c, none))) (fun h => h) (R := 0 + 1) (duties_later m (barCell c))) $$ [Hat] with Hz
  · isplitr; · iexact HI
    iexact Hat
  iapply Hk
  isplitr [Hz]
  · isplitl [HO]; · iexists _; iexact HO
    isplitl [Ht Hpay]
    · ihave H := (sep_join (Finset.Ico 0 21) _ _) $$ [Ht Hpay]
      · isplitl [Ht] <;> iassumption
      iapply (show (bigSep (Finset.Ico 0 21) fun n => iprop((dutyTok ER (sendCell c (dec n)) 0 0 ∗ dutyTok ER (landing c n) 0 0)
          ∗ free (F := F) (slotM ((dec n).1, (dec n).2.rev)) (peer c (dec n).2))) ⊢ bigSep (Finset.Ico 0 21) fun n => todo (F := F) c n
        from bigSep_mono fun n _ => todo_intro c n) $$ H
    isplitr; · iempintro
    isplitl [Hr]; · iexact Hr
    iempintro
  · iexact Hz

/-! ## The sends waited for -/

/-- Every copy issued and every reception waited for; `w` sends waited for. -/
def Drain (c : Dev nD) (w : ℕ) : sProp 𝕄 :=
  iprop((∃ W, owes (c : Thread nD τ) (0 : CellTallies nD τ sig Unit) W)
    ∗ (bigSep (Finset.Ico w 21) fun n => iprop(atPos ER (sendCell c (dec n)) 0 ∅ 0 ∗ cred (tallyAt (sendCell c (dec n)) () N)))
    ∗ bigSep (Finset.Ico 0 w) fun n => iprop(semVal (sendCell c (dec n)) 0 ∗ sendPay m c (dec n)))

/-- What the receptions leave: the receive cells closed, the slots filled. -/
def Filled (c : Dev nD) : sProp 𝕄 := bigSep (Finset.Ico 0 21) fun n => iprop(semVal (recvCell c (dec n)) 0 ∗ recvPay m c (dec n))

theorem drain_intro (c : Dev nD) :
    iprop(Busy m c 21 21 ∗ bigSep (Finset.Ico 0 21) fun n => atPos ER (sendCell c (dec n)) 0 ∅ 0) ⊢ iprop(Drain m c 0 ∗ Filled m c) := by
  unfold Busy Drain Filled
  rw [owe_end, show (Finset.Ico 21 21 : Finset ℕ) = ∅ from rfl, show (Finset.Ico 0 0 : Finset ℕ) = ∅ from rfl, bigSep_empty, bigSep_empty, bigSep_empty]
  iintro ⟨⟨HO, -, Hc, -, Hd⟩, Ha⟩
  isplitr [Hd]
  · isplitl [HO]; · iexact HO
    isplitl [Ha Hc]
    · iapply (sep_join (Finset.Ico 0 21) _ _)
      isplitl [Ha] <;> iassumption
    iempintro
  · iexact Hd

theorem wp_drain (c : Dev nD) (w : ℕ) (hw : w < 21) {s : DmaSem sig} (hs : s = sendS (dec w))
    {src dst : Memref sig .tc .vmem S64x512 .bf16} (hN : dst.view.dmaCredit = N) {hsrc : src.view.WordExact} {hdst : dst.view.WordExact}
    {α : Type} {Q : α → sProp 𝕄} {k : PUnit → Prog (TpuEff nD τ sig (Elt F) Λ₀ .tc) α} :
    iprop(known m K ∗ Drain m c w)
      ⊢ iprop((Drain m c (w + 1) -∗ run c (k ⟨⟩) Q) -∗ run c (.op (.waitDma2 s src dst hsrc hdst) k) Q) := by
  subst hs
  unfold Drain
  rw [bigSep_Ico_succ_bot hw, bigSep_Ico_succ_top (Nat.zero_le w)]
  iintro ⟨#HK, ⟨⟨%W, HO⟩, ⟨⟨Hat, Hcr⟩, Hr⟩, Hd⟩⟩ Hk
  ihave Hq := (known_cell m K (c, some (false, dec w))) $$ HK
  icases Hq with ⟨#HI, -⟩
  iapply (Rounds.wp_wait_rest_token 𝒱₀ ER (sched m) (c : Thread nD τ) none (κ := K (c, some (false, dec w)))
      (wpE_waitDma2_eq 𝒱₀ (c : Thread nD τ) none Set.univ) (Set.mem_univ _) () (O := 0) (W := W) (R := 0) (m := 0) (T := ∅)
      (by rw [Nat.zero_add, hN, expect_send])) $$ [Hcr HO Hat]
  · isplitr; · iexact HI
    isplitl [Hcr]; · rw [hN]; iexact Hcr
    isplitl [HO]; · iexact HO
    isplitr; · rw [MayWait_zero]; iempintro
    iexact Hat
  iintro ⟨HO, Hat, -, Hpay⟩
  ihave Hpay := (Entails.of_eq (rest_send m c (dec w))) $$ Hpay
  imod (Rounds.cell_close ER (sched m) (Set.mem_univ (K (c, some (false, dec w)))) (fun h => h) (R := 0 + 1) (duties_later m (sendCell c (dec w)))) $$ [Hat] with Hz
  · isplitr; · iexact HI
    iexact Hat
  iapply Hk
  isplitl [HO]; · iexists _; iexact HO
  isplitl [Hr]; · iexact Hr
  isplitr [Hd]
  · isplitl [Hz]; · iexact Hz
    iexact Hpay
  iexact Hd

end Cert.MeshMlp
-- ==== Proof.Does.lean ====
/-
What a stretch of the kernel does, as one statement that composes: from `A` it runs to `B`, and what it returns
satisfies `ok`. Over it, the state of a device between two operations and what each operation makes of that state.
-/
module

public import proofs.«01_k».proof.Proof.Steps

@[expose] public section

noncomputable section

namespace Cert.MeshMlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)
open Idealize.ShloMosaic.Pipeline (Dat Cfg Window BodyObligation cellOf)

variable {F : FTy → Type} [FloatOps F]

local notation "𝕄" => MT nD τ sig Unit (Elt F) ℕ UU ℕ
/-- A program of a core of this kernel. -/
abbrev Pr (F : FTy → Type) (α : Type) : Type _ := Prog (TpuEff nD τ sig (Elt F) Λ₀ .tc) α

variable (m : (ℓ : Loc nD τ sig) → Buf (Elt F) ℓ) (K : Dev nD × CI → ℕ) (c : Dev nD)

/-- From `A`, with the cells known, device `c` runs `p` to `B`; what `p` returns satisfies `ok`. -/
def Does {α : Type} (p : Pr F α) (A : sProp 𝕄) (ok : α → Prop) (B : sProp 𝕄) : Prop :=
  ∀ Q : α → sProp 𝕄, iprop(known m K ∗ A) ⊢ iprop((∀ x, ⌜ok x⌝ -∗ B -∗ Q x) -∗ run c p Q)

section Calculus
variable {m K c} {α β : Type}

theorem Does.bind {p : Pr F α} {f : α → Pr F β} {A B C : sProp 𝕄} {ok : α → Prop} {ok' : β → Prop}
    (h : Does m K c p A ok B) (h' : ∀ x, ok x → Does m K c (f x) B ok' C) : Does m K c (p >>= f) A ok' C := fun Q => by
  unfold run; rw [wp_bind]
  iintro ⟨#HK, HA⟩ Hk
  iapply (h _) $$ [HA]
  · isplitr; · iexact HK
    iexact HA
  iintro %x %hx HB
  iapply (h' x hx Q) $$ [HB]
  · isplitr; · iexact HK
    iexact HB
  iexact Hk

theorem Does.ret {x : α} {A : sProp 𝕄} {ok : α → Prop} (h : ok x) : Does m K c (pure x) A ok A := fun Q => by
  rw [Prog.pure_eq_ret]; unfold run; rw [wp_ret]
  iintro ⟨-, HA⟩ Hk
  imodintro
  iapply Hk $$ %x [] HA
  ipureintro; exact h

theorem Does.weaken {p : Pr F α} {A B : sProp 𝕄} {ok ok' : α → Prop} (h : Does m K c p A ok B) (ho : ∀ x, ok x → ok' x) : Does m K c p A ok' B := fun Q => by
  iintro HA Hk
  iapply (h Q) $$ HA
  iintro %x %hx HB
  iapply Hk $$ %x [] HB
  ipureintro; exact ho x hx

theorem Does.before {p : Pr F α} {A A' B : sProp 𝕄} {ok : α → Prop} (h : Does m K c p A ok B) (hA : A' ⊢ A) : Does m K c p A' ok B := fun Q => by
  iintro ⟨HK, HA⟩
  iapply (h Q)
  isplitl [HK]; · iexact HK
  iapply hA $$ HA

/-- A stretch that touches only a part of what is held. -/
theorem Does.within {p : Pr F α} {A A' B B' R : sProp 𝕄} {ok : α → Prop} (h : Does m K c p A ok B)
    (hA : A' ⊢ iprop(A ∗ R)) (hB : iprop(B ∗ R) ⊢ B') : Does m K c p A' ok B' := fun Q => by
  iintro ⟨#HK, HA⟩ Hk
  ihave HA := hA $$ HA
  icases HA with ⟨HA, HR⟩
  iapply (h Q) $$ [HA]
  · isplitr; · iexact HK
    iexact HA
  iintro %x %hx HB
  iapply Hk $$ %x [] [HB HR]
  · ipureintro; exact hx
  iapply hB
  isplitl [HB] <;> iassumption

/-- An operation, from the rule that steps over it. -/
theorem Does.step {e : TpuEff nD τ sig (Elt F) Λ₀ .tc α} {A B : sProp 𝕄} {v : α}
    (h : ∀ Q : α → sProp 𝕄, iprop(known m K ∗ A) ⊢ iprop((B -∗ run c (.ret v) Q) -∗ run c (.op e .ret) Q)) :
    Does m K c (Prog.lift e) A (fun x => x = v) B := fun Q => by
  unfold Prog.lift
  iintro HA Hk
  iapply (h Q) $$ HA
  iintro HB
  unfold run; rw [wp_ret]
  imodintro
  iapply Hk $$ %v [] HB
  ipureintro; rfl
end Calculus

/-! ## The state between two operations -/

/-- Row `l` when `a` copies are issued and `q` rows written. -/
def rowAt (a q : ℕ) (l : Fin 3) : sProp 𝕄 := if l.val < q then row m c l (min 7 (a - 7 * l.val)) else free (rowM l) c
def Rows (a q : ℕ) : sProp 𝕄 := bigSep Finset.univ (rowAt m c a q)

/-- A staging buffer of device `c`, holding `X`. -/
abbrev stg (b : Ref sig .tc) (X : b.ty.Contents (Elt F)) : sProp 𝕄 := ((c : Thread nD τ).loc b) ↦{fullShare} X

/-- The staged inputs, in the order of the windows. -/
def insAt : Fin 7 → sProp 𝕄
  | 0 => stg c cc0_stg0_0 (xin m c)
  | 1 => stg c cc0_stg1_0 (w0 m c)
  | 2 => stg c cc0_stg2_0 (v0 m c)
  | 3 => stg c cc0_stg3_0 (w1 m c)
  | 4 => stg c cc0_stg4_0 (v1 m c)
  | 5 => stg c cc0_stg5_0 (w2 m c)
  | 6 => stg c cc0_stg6_0 (v2 m c)
def Ins : sProp 𝕄 := bigSep Finset.univ (insAt m c)

/-- The state: the progress `X`, the rows, the inputs, the output's buffer `Y`. -/
def St (X : sProp 𝕄) (a q : ℕ) (Y : sProp 𝕄) : sProp 𝕄 := iprop(X ∗ Rows m c a q ∗ Ins m c ∗ Y)

def outFree : sProp 𝕄 := iprop(∃ f, stg (F := F) c cc0_stg7_0 f)
def outDone : sProp 𝕄 := stg c cc0_stg7_0 (act m 3 c)

def sendsAt : sProp 𝕄 := bigSep (Finset.Ico 0 21) fun n => atPos ER (sendCell c (dec n)) 0 ∅ 0

/-- Before the barrier is passed, `j` signals given; -/
def Early (j : ℕ) : sProp 𝕄 := iprop((Greet c j ∗ Idle c) ∗ sendsAt c)
/-- while copies are issued and received; -/
def Mid (a r : ℕ) : sProp 𝕄 := iprop(Busy m c a r ∗ semVal (barCell c) 0 ∗ sendsAt c)
/-- while the sends are waited for. -/
def Late (w : ℕ) : sProp 𝕄 := iprop(Drain m c w ∗ Filled m c ∗ semVal (barCell c) 0)

theorem rows_copy (a q : ℕ) (l : Fin 3) (k : ℕ) (hk : k < 7) (ha : a < 21) (hp : dec a = (l, ⟨k, hk⟩)) (hl : l.val < q) :
    Rows m c a q = iprop(row m c l k ∗ bigSep (Finset.univ.erase l) (rowAt m c a q))
      ∧ Rows m c (a + 1) q = iprop(row m c l (k + 1) ∗ bigSep (Finset.univ.erase l) (rowAt m c a q)) := by
  have h1 : a / 7 % 3 = l.val := congrArg (fun p : P => p.1.val) hp
  have h2 : a % 7 = k := congrArg (fun p : P => p.2.val) hp
  refine ⟨?_, ?_⟩
  · unfold Rows
    rw [bigSep_erase (Finset.mem_univ l), show rowAt m c a q l = row m c l k by
      unfold rowAt; rw [if_pos hl, show min 7 (a - 7 * l.val) = k by omega]]
    rfl
  · unfold Rows
    rw [bigSep_erase (Finset.mem_univ l), show rowAt m c (a + 1) q l = row m c l (k + 1) by
      unfold rowAt; rw [if_pos hl, show min 7 (a + 1 - 7 * l.val) = k + 1 by omega]]
    show iprop(row m c l (k + 1) ∗ _) = iprop(row m c l (k + 1) ∗ _)
    congr 1
    refine bigSep_congr fun l' hl' => ?_
    have hne : l'.val ≠ l.val := fun e => (Finset.mem_erase.mp hl').1 (Fin.ext e)
    unfold rowAt
    rw [show min 7 (a + 1 - 7 * l'.val) = min 7 (a - 7 * l'.val) by omega]

theorem rows_put (a : ℕ) (l : Fin 3) (ha : a ≤ 7 * l.val) :
    Rows m c a l.val = iprop(free (rowM l) c ∗ bigSep (Finset.univ.erase l) (rowAt m c a l.val))
      ∧ Rows m c a (l.val + 1) = iprop(row m c l 0 ∗ bigSep (Finset.univ.erase l) (rowAt m c a l.val)) := by
  refine ⟨?_, ?_⟩
  · unfold Rows
    rw [bigSep_erase (Finset.mem_univ l), show rowAt m c a l.val l = free (rowM l) c by unfold rowAt; rw [if_neg (Nat.lt_irrefl _)]]
    rfl
  · unfold Rows
    rw [bigSep_erase (Finset.mem_univ l), show rowAt m c a (l.val + 1) l = row m c l 0 by
      unfold rowAt; rw [if_pos (Nat.lt_succ_self _), show min 7 (a - 7 * l.val) = 0 by omega]]
    show iprop(row m c l 0 ∗ _) = iprop(row m c l 0 ∗ _)
    congr 1
    refine bigSep_congr fun l' hl' => ?_
    have hne : l'.val ≠ l.val := fun e => (Finset.mem_erase.mp hl').1 (Fin.ext e)
    unfold rowAt
    by_cases h : l'.val < l.val
    · rw [if_pos h, if_pos (by omega)]
    · rw [if_neg h, if_neg (by omega)]

section Focus
variable {m K c} {α : Type} {p : Pr F α} {ok : α → Prop}

/-- A step of the progress alone. -/
theorem Does.progress {X X' : sProp 𝕄} {a q : ℕ} {Y : sProp 𝕄} (h : Does m K c p X ok X') : Does m K c p (St m c X a q Y) ok (St m c X' a q Y) :=
  h.within (Entails.refl _) (Entails.refl _)
/-- A step of the rows alone. -/
theorem Does.rows {X : sProp 𝕄} {a q a' q' : ℕ} {Y : sProp 𝕄} (h : Does m K c p (Rows m c a q) ok (Rows m c a' q')) :
    Does m K c p (St m c X a q Y) ok (St m c X a' q' Y) := by
  refine h.within (R := iprop(X ∗ Ins m c ∗ Y)) ?_ ?_ <;> unfold St
  · iintro ⟨HX, HR, HY⟩
    isplitl [HR]; · iexact HR
    isplitl [HX] <;> iassumption
  · iintro ⟨HR, HX, HY⟩
    isplitl [HX]; · iexact HX
    isplitl [HR] <;> iassumption
/-- A step that reads the inputs alone. -/
theorem Does.inputs {X : sProp 𝕄} {a q : ℕ} {Y : sProp 𝕄} (h : Does m K c p (Ins m c) ok (Ins m c)) :
    Does m K c p (St m c X a q Y) ok (St m c X a q Y) := by
  refine h.within (R := iprop(X ∗ Rows m c a q ∗ Y)) ?_ ?_ <;> unfold St
  · iintro ⟨HX, HR, HI, HY⟩
    isplitl [HI]; · iexact HI
    isplitl [HX]; · iexact HX
    isplitl [HR] <;> iassumption
  · iintro ⟨HI, HX, HR, HY⟩
    isplitl [HX]; · iexact HX
    isplitl [HR]; · iexact HR
    isplitl [HI] <;> iassumption
/-- A step of the output alone. -/
theorem Does.output {X : sProp 𝕄} {a q : ℕ} {Y Y' : sProp 𝕄} (h : Does m K c p Y ok Y') :
    Does m K c p (St m c X a q Y) ok (St m c X a q Y') := by
  refine h.within (R := iprop(X ∗ Rows m c a q ∗ Ins m c)) ?_ ?_ <;> unfold St
  · iintro ⟨HX, HR, HI, HY⟩
    isplitl [HY]; · iexact HY
    isplitl [HX]; · iexact HX
    isplitl [HR] <;> iassumption
  · iintro ⟨HY, HX, HR, HI⟩
    isplitl [HX]; · iexact HX
    isplitl [HR]; · iexact HR
    isplitl [HI] <;> iassumption
end Focus

/-! ## The operations -/

/-- A step that reads one input. -/
theorem does_in {m : (ℓ : Loc nD τ sig) → Buf (Elt F) ℓ} {K : Dev nD × CI → ℕ} {c : Dev nD} {α : Type} {p : Pr F α} {ok : α → Prop} {X Y : sProp 𝕄} {a q : ℕ} (i : Fin 7) (h : Does m K c p (insAt m c i) ok (insAt m c i)) :
    Does m K c p (St m c X a q Y) ok (St m c X a q Y) := by
  refine Does.inputs ?_
  unfold Ins
  rw [bigSep_erase (Finset.mem_univ i)]
  exact h.within (Entails.refl _) (Entails.refl _)

theorem slot_credit (p : P) : (slotM p).view.dmaCredit = N := rfl
theorem row_credit (l : Fin 3) : (rowM l).view.dmaCredit = N := rfl

section Ops
variable {m K c} {a r q : ℕ}

theorem does_signal {Y : sProp 𝕄} (j : ℕ) (hj : j < 7) {n : Dev nD} (hn : n = peer c (dec j).2) {s : Sem sig} (hs : s = barS) :
    Does m K c (semSignalWord (Val := Elt F) (Λ := Λ₀) n s 1#32) (St m c (Early c j) a q Y) (fun _ => True) (St m c (Early c (j + 1)) a q Y) := by
  refine Does.progress (Does.within (A := Greet c j) (B := Greet c (j + 1)) (R := iprop(Idle c ∗ sendsAt c)) ?_ ?_ ?_)
  · refine Does.weaken (ok := fun x => x = ⟨⟩) ?_ fun _ _ => trivial
    unfold semSignalWord
    exact Does.step fun Q => wp_greet m K c j hj hn hs (by decide)
  · unfold Early
    iintro ⟨⟨H1, H2⟩, H3⟩
    isplitl [H1]; · iexact H1
    isplitl [H2] <;> iassumption
  · unfold Early
    iintro ⟨H1, H2, H3⟩
    isplitr [H3]
    · isplitl [H1] <;> iassumption
    iexact H3

theorem does_answered {Y : sProp 𝕄} {s : Sem sig} (hs : s = barS) :
    Does m K c (semWaitWord (Val := Elt F) (Λ := Λ₀) s 7#32) (St m c (Early c 7) a q Y) (fun _ => True) (St m c (Mid m c 0 0) a q Y) := by
  refine Does.progress (Does.within (A := iprop(Greet c 7 ∗ Idle c)) (B := iprop(Busy m c 0 0 ∗ semVal (barCell c) 0)) (R := sendsAt c) ?_ (Entails.refl _) ?_)
  · refine Does.weaken (ok := fun x => x = ⟨⟩) ?_ fun _ _ => trivial
    unfold semWaitWord
    exact Does.step fun Q => wp_answered m K c hs (by decide)
  · unfold Mid
    iintro ⟨⟨H1, H2⟩, H3⟩
    isplitl [H1]; · iexact H1
    isplitl [H2] <;> iassumption

theorem does_copy {Y : sProp 𝕄} (l : Fin 3) (k : ℕ) (hk : k < 7) (ha : a < 21) (hp : dec a = (l, ⟨k, hk⟩)) (hl : l.val < q)
    {n : Dev nD} (hn : n = peer c ⟨k, hk⟩)
    {src dst : Memref sig .tc .vmem S64x512 .bf16} (hsrc' : src = rowM l) (hdst' : dst = slotM (l, (⟨k, hk⟩ : Fin 7).rev))
    {s₁ s₂ : DmaSem sig} (hs₁ : s₁ = sendS (l, ⟨k, hk⟩)) (hs₂ : s₂ = recvS (l, (⟨k, hk⟩ : Fin 7).rev))
    {hsc : (dst : Memref sig (Dev.tc n : Thread nD τ).2.kind .vmem S64x512 .bf16).view.ref.isScScratch = false}
    {hsrc : src.view.WordExact} {hdst : dst.view.WordExact}
    {hsem : DmaTarget.Typed .vmem (.dma s₂) (.remote (Dev.tc n : Thread nD τ) dst (.dma s₁) hsc)} :
    Does m K c (Prog.lift (.enqueueDma src (.remote (Dev.tc n : Thread nD τ) dst (.dma s₁) hsc) (.dma s₂) hsrc hdst hsem))
      (St m c (Mid m c a r) a q Y) (fun _ => True) (St m c (Mid m c (a + 1) r) (a + 1) q Y) := by
  obtain ⟨e1, e2⟩ := rows_copy m c a q l k hk ha hp hl
  refine Does.within (A := iprop(Busy m c a r ∗ row m c l k)) (B := iprop(Busy m c (a + 1) r ∗ row m c l (k + 1)))
    (R := iprop((semVal (barCell c) 0 ∗ sendsAt c) ∗ bigSep (Finset.univ.erase l) (rowAt m c a q) ∗ Ins m c ∗ Y)) ?_ ?_ ?_
  · refine Does.weaken (ok := fun x => x = ⟨⟩) ?_ fun _ _ => trivial
    exact Does.step fun Q => wp_copy m K c a r l k hk ha hp hn hsrc' hdst' hs₁ hs₂
  · unfold St Mid; rw [e1]
    iintro ⟨⟨H1, H2⟩, ⟨H3, H4⟩, H5⟩
    isplitl [H1 H3]
    · isplitl [H1] <;> iassumption
    isplitl [H2]; · iexact H2
    isplitl [H4] <;> iassumption
  · unfold St Mid; rw [e2]
    iintro ⟨⟨H1, H3⟩, H2, H4, H5⟩
    isplitl [H1 H2]
    · isplitl [H1] <;> iassumption
    isplitl [H3 H4]
    · isplitl [H3] <;> iassumption
    iexact H5

theorem does_receive {Y : sProp 𝕄} (hr : r < 21) (hra : r / 7 < a / 7 ∨ a = 21) {s : DmaSem sig} (hs : s = recvS (dec r))
    {src dst : Memref sig .tc .vmem S64x512 .bf16} (hd : dst = slotM (dec r)) {hsrc : src.view.WordExact} {hdst : dst.view.WordExact} {b : ℕ} :
    Does m K c (Prog.lift (.waitDma2 s src dst hsrc hdst)) (St m c (Mid m c a r) b q Y) (fun _ => True) (St m c (Mid m c a (r + 1)) b q Y) := by
  refine Does.progress (Does.within (A := Busy m c a r) (B := Busy m c a (r + 1)) (R := iprop(semVal (barCell c) 0 ∗ sendsAt c)) ?_ (Entails.refl _) (Entails.refl _))
  refine Does.weaken (ok := fun x => x = ⟨⟩) ?_ fun _ _ => trivial
  exact Does.step fun Q => wp_receive m K c a r hr hra hs (by subst hd; exact slot_credit _)

theorem does_read {Y : sProp 𝕄} (n : ℕ) (hn : n < r) {off : Fin 4 → ℕ} (hoff : off = ![(dec n).1.val, (dec n).2.val, 0, 0])
    {inb : ∀ a, off a + S1x1x64x512.size a ≤ S3x7x64x512.size a}
    {hl : commM.view.LoadsAt (Rect.unit (s := S3x7x64x512) off S1x1x64x512.size inb).toLoadRect} {b : ℕ} :
    Does m K c (Prog.lift (.load commM (Rect.unit (s := S3x7x64x512) off S1x1x64x512.size inb).toLoadRect hl)) (St m c (Mid m c a r) b q Y)
      (fun x => x = slotVal (sent m (dec n).1.val (peer c (dec n).2))) (St m c (Mid m c a r) b q Y) := by
  refine Does.progress (Does.within (A := Busy m c a r) (B := Busy m c a r) (R := iprop(semVal (barCell c) 0 ∗ sendsAt c)) ?_ (Entails.refl _) (Entails.refl _))
  exact Does.step fun Q => by
    iintro ⟨-, H⟩
    iapply (wp_read m c a r n hn hoff) $$ H

theorem does_peek {X Y : sProp 𝕄} (l : Fin 3) (ha : a ≤ 7 * l.val) {off : Fin 3 → ℕ} (hoff : off = ![l.val, 0, 0])
    {inb : ∀ a, off a + S1x64x512.size a ≤ S3x64x512.size a}
    {hl : ownM.view.LoadsAt (Rect.unit (s := S3x64x512) off S1x64x512.size inb).toLoadRect} :
    Does m K c (Prog.lift (.load ownM (Rect.unit (s := S3x64x512) off S1x64x512.size inb).toLoadRect hl)) (St m c X a l.val Y)
      (fun _ => True) (St m c X a l.val Y) := by
  refine Does.rows ?_
  rw [(rows_put m c a l ha).1]
  refine Does.within (A := free (rowM l) c) (B := free (rowM l) c) (fun Q => ?_) (Entails.refl _) (Entails.refl _)
  unfold Prog.lift
  iintro ⟨-, HA⟩ Hk
  iapply (wp_peek c l hoff) $$ HA
  iintro %x HB
  unfold run; rw [wp_ret]
  imodintro
  iapply Hk $$ %x [] HB
  ipureintro; trivial

theorem does_put {X Y : sProp 𝕄} (l : Fin 3) (ha : a ≤ 7 * l.val) {off : Fin 3 → ℕ} (hoff : off = ![l.val, 0, 0])
    {inb : ∀ a, off a + S1x64x512.size a ≤ S3x64x512.size a} {w : Vec F S1x64x512 .bf16}
    (hw : w = shapeCast S1x64x512 (sent m l.val c) shapeCasts_S64x512_S1x64x512)
    {hx : (ownM.access (Rect.unit (s := S3x64x512) off S1x64x512.size inb)).Stores Finset.univ}
    {hm : (Finset.univ : Finset (Rect.unit (s := S3x64x512) off S1x64x512.size inb).shape.Idx) = Finset.univ ∨ ∀ a, (Rect.unit (s := S3x64x512) off S1x64x512.size inb).stride a = 1} :
    Does m K c (Prog.lift (.store ownM (Rect.unit (s := S3x64x512) off S1x64x512.size inb) w Finset.univ hx hm)) (St m c X a l.val Y)
      (fun _ => True) (St m c X a (l.val + 1) Y) := by
  refine Does.rows ?_
  rw [(rows_put m c a l ha).1, (rows_put m c a l ha).2]
  refine Does.within (A := free (rowM l) c) (B := row m c l 0) ?_ (Entails.refl _) (Entails.refl _)
  refine Does.weaken (ok := fun x => x = ⟨⟩) ?_ fun _ _ => trivial
  exact Does.step fun Q => by
    iintro ⟨-, H⟩
    iapply (wp_put m c l hoff hw) $$ H

/-- Copy number `a`, its operands as printed. -/
theorem copy_at {Y : sProp 𝕄} (a : ℕ) (ha : a < 21) (hq : a / 7 % 3 < q) {n : ℕ} {hn : n < nD} (en : n = (c.val + (a % 7 + 1)) % 8)
    {src dst : Memref sig .tc .vmem S64x512 .bf16} (hsrc' : src = rowM (dec a).1) (hdst' : dst = slotM ((dec a).1, (dec a).2.rev))
    {s₁ s₂ : DmaSem sig} (hs₁ : s₁ = sendS (dec a)) (hs₂ : s₂ = recvS ((dec a).1, (dec a).2.rev))
    {hsc : (dst : Memref sig (Dev.tc (⟨n, hn⟩ : Dev nD) : Thread nD τ).2.kind .vmem S64x512 .bf16).view.ref.isScScratch = false}
    {hsrc : src.view.WordExact} {hdst : dst.view.WordExact}
    {hsem : DmaTarget.Typed .vmem (.dma s₂) (.remote (Dev.tc (⟨n, hn⟩ : Dev nD) : Thread nD τ) dst (.dma s₁) hsc)} :
    Does m K c (Prog.lift (.enqueueDma src (.remote (Dev.tc (⟨n, hn⟩ : Dev nD) : Thread nD τ) dst (.dma s₁) hsc) (.dma s₂) hsrc hdst hsem))
      (St m c (Mid m c a r) a q Y) (fun _ => True) (St m c (Mid m c (a + 1) r) (a + 1) q Y) :=
  does_copy (dec a).1 (a % 7) (Nat.mod_lt _ (by decide)) ha rfl hq (peer_of c _ hn en) hsrc' hdst' hs₁ hs₂

theorem does_device {A : sProp 𝕄} : Does m K c (Prog.lift .deviceId) A (fun d => d = c) A :=
  Does.step fun Q => by
    unfold run; rw [wp_deviceId]
    iintro ⟨-, HA⟩ Hk
    iapply Hk $$ HA

/-- A load from a buffer held whole. -/
theorem does_load {s : Shape} {e : EltTy} (M : Memref sig .tc .vmem s e) (V : Buf (Elt F) (M.view.loc (c : Thread nD τ))) {r : LoadRect s} {hl : M.view.LoadsAt r}
    {v : r.shape.Idx → Elt F e} (hv : M.view.readAt (Elt F) r V = v) :
    Does m K c (Prog.lift (.load M r hl)) (M.view.loc (c : Thread nD τ) ↦{fullShare} V) (fun x => x = v) (M.view.loc (c : Thread nD τ) ↦{fullShare} V) :=
  Does.step fun Q => by
    subst hv
    iintro ⟨-, H⟩ Hk
    iapply (wp_load 𝒱₀ (c : Thread nD τ) none Set.univ (m := M) (Finset.subset_univ _)) $$ H
    iintro H
    iapply Hk $$ H

/-- A load of the output's buffer, not read further. -/
theorem does_outpeek {X : sProp 𝕄} {off : Fin 2 → ℕ} {inb : ∀ a, off a + S64x512.size a ≤ S64x512.size a}
    {hl : (Memref.whole cc0_stg7_0 : Memref sig .tc .vmem S64x512 .bf16).view.LoadsAt (Rect.unit (s := S64x512) off S64x512.size inb).toLoadRect} :
    Does m K c (Prog.lift (.load (Memref.whole cc0_stg7_0) (Rect.unit (s := S64x512) off S64x512.size inb).toLoadRect hl)) (St m c X a q (outFree c))
      (fun _ => True) (St m c X a q (outFree c)) := by
  refine Does.output fun Q => ?_
  unfold outFree Prog.lift
  iintro ⟨-, ⟨%f, H⟩⟩ Hk
  iapply (wp_load 𝒱₀ (c : Thread nD τ) none Set.univ (m := Memref.whole cc0_stg7_0) (Finset.subset_univ _)) $$ H
  iintro H
  rw [wp_ret]
  imodintro
  iapply Hk $$ %_ [] [H]
  · ipureintro; trivial
  iexists f; iexact H

/-- The store of the whole output. -/
theorem does_out {X : sProp 𝕄} {off : Fin 2 → ℕ} (hz : off = fun _ => 0) {inb : ∀ a, off a + S64x512.size a ≤ S64x512.size a} {w : Vec F S64x512 .bf16} (hw : w = act m 3 c)
    {hx : ((Memref.whole cc0_stg7_0 : Memref sig .tc .vmem S64x512 .bf16).access (Rect.unit (s := S64x512) off S64x512.size inb)).Stores Finset.univ}
    {hm : (Finset.univ : Finset (Rect.unit (s := S64x512) off S64x512.size inb).shape.Idx) = Finset.univ ∨ ∀ a, (Rect.unit (s := S64x512) off S64x512.size inb).stride a = 1} :
    Does m K c (Prog.lift (.store (Memref.whole cc0_stg7_0) (Rect.unit (s := S64x512) off S64x512.size inb) w Finset.univ hx hm)) (St m c X a q (outFree c))
      (fun _ => True) (St m c X a q (outDone m c)) := by
  refine Does.output ?_
  refine Does.weaken (ok := fun x => x = ⟨⟩) ?_ fun _ _ => trivial
  subst hw
  exact Does.step fun Q => by
    unfold outFree outDone
    iintro ⟨-, ⟨%f, H⟩⟩ Hk
    iapply (wp_store 𝒱₀ (c : Thread nD τ) none Set.univ (m := Memref.whole cc0_stg7_0) (r := Rect.unit (s := S64x512) off S64x512.size inb) (Mk := Finset.univ) (Finset.subset_univ _)) $$ H
    iintro H
    rw [show ((Memref.whole cc0_stg7_0 : Memref sig .tc .vmem S64x512 .bf16).access (Rect.unit (s := S64x512) off S64x512.size inb)).write (Elt F) f (act m 3 c) Finset.univ
      = act m 3 c from Memref.write_access_unit_zero_univ (Elt F) cc0_stg7_0 hz inb f (act m 3 c)]
    iapply Hk $$ H

theorem late_intro {Y : sProp 𝕄} {b : ℕ} : St m c (Mid m c 21 21) b q Y ⊢ St m c (Late m c 0) b q Y := by
  unfold St Mid Late sendsAt
  iintro ⟨⟨HB, Hz, Hs⟩, HR⟩
  isplitr [HR]
  · ihave H := (drain_intro m c) $$ [HB Hs]
    · isplitl [HB] <;> iassumption
    icases H with ⟨H1, H2⟩
    isplitl [H1]; · iexact H1
    isplitl [H2] <;> iassumption
  · iexact HR

theorem does_drain {Y : sProp 𝕄} (w : ℕ) (hw : w < 21) {s : DmaSem sig} (hs : s = sendS (dec w))
    {src dst : Memref sig .tc .vmem S64x512 .bf16} (hd : dst = rowM (dec w).1) {hsrc : src.view.WordExact} {hdst : dst.view.WordExact} {b : ℕ} :
    Does m K c (Prog.lift (.waitDma2 s src dst hsrc hdst)) (St m c (Late m c w) b q Y) (fun _ => True) (St m c (Late m c (w + 1)) b q Y) := by
  refine Does.progress (Does.within (A := Drain m c w) (B := Drain m c (w + 1)) (R := iprop(Filled m c ∗ semVal (barCell c) 0)) ?_ (Entails.refl _) (Entails.refl _))
  refine Does.weaken (ok := fun x => x = ⟨⟩) ?_ fun _ _ => trivial
  exact Does.step fun Q => wp_drain m K c w hw hs (by subst hd; exact row_credit _)

end Ops

end Cert.MeshMlp
-- ==== Proof.Parts.lean ====
/-
The printed parts of the kernel's body, each run from the state before it to the state after.

A part is a window of the body's operations in program order; its proof names the operation's rule and the
number of the copy, reception or wait, nothing else.
-/
module

public import proofs.«01_k».proof.Proof.Does

@[expose] public section

noncomputable section

namespace Cert.MeshMlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (K : Dev nD × CI → ℕ) (c : Dev nD)

/-- A part, or the body, at the buffers of the launch. -/
abbrev atBufs {β : Type _} (f : ∀ (arg0 : Memref sig .tc .vmem S64x512 .bf16) (harg0 : arg0.IsWhole), ∀ (arg1 : Memref sig .tc .vmem S512x1024 .bf16) (harg1 : arg1.IsWhole), ∀ (arg2 : Memref sig .tc .vmem S1024x512 .bf16) (harg2 : arg2.IsWhole), ∀ (arg3 : Memref sig .tc .vmem S512x1024 .bf16) (harg3 : arg3.IsWhole), ∀ (arg4 : Memref sig .tc .vmem S1024x512 .bf16) (harg4 : arg4.IsWhole), ∀ (arg5 : Memref sig .tc .vmem S512x1024 .bf16) (harg5 : arg5.IsWhole), ∀ (arg6 : Memref sig .tc .vmem S1024x512 .bf16) (harg6 : arg6.IsWhole), ∀ (arg7 : Memref sig .tc .vmem S64x512 .bf16) (harg7 : arg7.IsWhole), ∀ (arg8 : Memref sig .tc .vmem S3x7x64x512 .bf16) (harg8 : arg8.IsWhole), ∀ (arg9 : Memref sig .tc .vmem S3x64x512 .bf16) (harg9 : arg9.IsWhole), DmaSems sig S3x7 → DmaSems sig S3x7 → β) : β :=
  f (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _)
    cc0_scratch2 cc0_scratch3

theorem off2 : (![0, 0] : Fin 2 → ℕ) = fun _ => 0 := by funext a; fin_cases a <;> rfl

/-! ## What the printed values are -/

section Values
variable (a : FVec F S64x512 .f32) (b b' : FVec F S64x512 .bf16) (w : Vec F S512x1024 .bf16) (v : Vec F S1024x512 .bf16)

theorem pay3_eq : k0_pay3 a (slotVal b) = plus a b := by unfold k0_pay3 plus; rw [slotVal_back]
theorem pay4_eq : k0_pay4 a (slotVal b) (slotVal b') = plus (plus a b) b' := by unfold k0_pay4 plus; rw [slotVal_back, slotVal_back]
theorem pay5_eq : k0_pay5 a (slotVal b) (slotVal b') = plus (plus a b) b' := by unfold k0_pay5 plus; rw [slotVal_back, slotVal_back]
theorem pay6_eq : k0_pay6 a (slotVal b) = plus a b := by unfold k0_pay6 plus; rw [slotVal_back]
theorem pay7_eq : k0_pay7 (F := F) (slotVal b) = b := by unfold k0_pay7; exact slotVal_back _ _
theorem pay8_eq : k0_pay8 a b w v = k0_pay1 (round (plus a b)) w v := by unfold k0_pay8 k0_pay1 plus round; simp only [shapeCast_self]
theorem pay9_eq : k0_pay9 a b w v = shapeCast S1x64x512 (round (k0_pay1 (round (plus a b)) w v)) shapeCasts_S64x512_S1x64x512 := by
  show shapeCast S1x64x512 (round (k0_pay8 a b w v)) shapeCasts_S64x512_S1x64x512 = _; rw [pay8_eq]
theorem pay10_eq : k0_pay10 a (slotVal b) (slotVal b') = plus (plus a b) b' := by unfold k0_pay10 plus; rw [slotVal_back, slotVal_back]
theorem pay11_eq : k0_pay11 a (slotVal b) (slotVal b') = plus (plus a b) b' := by unfold k0_pay11 plus; rw [slotVal_back, slotVal_back]
theorem pay12_eq : k0_pay12 a (slotVal b) = plus a b := by unfold k0_pay12 plus; rw [slotVal_back]
theorem pay13_eq : k0_pay13 a (slotVal b) (slotVal b') w v = k0_pay1 (round (plus (plus a b) b')) w v := by
  unfold k0_pay13 k0_pay1 plus round; rw [slotVal_back, slotVal_back]; simp only [shapeCast_self]
theorem pay14_eq : k0_pay14 a (slotVal b) (slotVal b') w v = round (k0_pay1 (round (plus (plus a b) b')) w v) := by
  show round (k0_pay13 a (slotVal b) (slotVal b') w v) = _; rw [pay13_eq]
theorem pay16_eq : k0_pay16 a (slotVal b) = plus a b := by unfold k0_pay16 plus; rw [slotVal_back]
theorem pay17_eq : k0_pay17 a (slotVal b) = plus a b := by unfold k0_pay17 plus; rw [slotVal_back]
theorem pay18_eq : k0_pay18 a (slotVal b) (slotVal b') = plus (plus a b) b' := by unfold k0_pay18 plus; rw [slotVal_back, slotVal_back]
theorem pay19_eq : k0_pay19 a (slotVal b) (slotVal b') = plus (plus a b) b' := by unfold k0_pay19 plus; rw [slotVal_back, slotVal_back]
theorem pay20_eq : k0_pay20 a (slotVal b) = round (plus a b) := by unfold k0_pay20 plus round; rw [slotVal_back]
end Values

/-! ## The parts -/

variable {m K c}

theorem part1 : Does m K c (atBufs (k0_part1 (F := F))) (St m c (Early c 0) 0 0 (outFree c))
    (fun x => x.1 = c ∧ x.2.2.1 = SemArray.scalar (sig.barrier 0 rfl) ∧ x.2.2.2.1 = partialOf m 0 c) (St m c (Early c 2) 0 1 (outFree c)) := by
  rw [k0_part1_eq_skeleton]; unfold atBufs k0_part1_skel
  refine does_device.bind fun d hd => ?_
  subst hd
  refine (does_in 0 (does_load (Memref.whole cc0_stg0_0) (xin m d) (Memref.readAt_unit_zero (Elt F) cc0_stg0_0 off2 _ _))).bind fun x hx => ?_
  refine (does_in 1 (does_load (Memref.whole cc0_stg1_0) (w0 m d) (Memref.readAt_unit_zero (Elt F) cc0_stg1_0 off2 _ _))).bind fun w hw => ?_
  refine (does_in 2 (does_load (Memref.whole cc0_stg2_0) (v0 m d) (Memref.readAt_unit_zero (Elt F) cc0_stg2_0 off2 _ _))).bind fun v hv => ?_
  subst hx hw hv
  refine (does_peek 0 (by decide) rfl).bind fun _ _ => ?_
  refine (does_put 0 (by decide) rfl rfl).bind fun _ _ => ?_
  refine (does_signal 0 (by decide) (peer_of d 0 _ (k0_dev1_eq d)) rfl).bind fun _ _ => ?_
  refine (does_signal 1 (by decide) (peer_of d 1 _ (k0_dev2_eq d)) rfl).bind fun _ _ => ?_
  exact Does.ret ⟨rfl, rfl, rfl⟩

theorem part2 (v2 v28 : BitVec 32) : Does m K c (atBufs (k0_part2 (F := F)) c v2 (SemArray.scalar (sig.barrier 0 rfl)) v28) (St m c (Early c 2) 0 1 (outFree c))
    (fun _ => True) (St m c (Mid m c 0 0) 0 1 (outFree c)) := by
  rw [k0_part2_eq_skeleton]; unfold atBufs k0_part2_skel
  refine (does_signal 2 (by decide) (peer_of c 2 _ (k0_dev3_eq c)) rfl).bind fun _ _ => ?_
  refine (does_signal 3 (by decide) (peer_of c 3 _ (k0_dev4_eq c)) rfl).bind fun _ _ => ?_
  refine (does_signal 4 (by decide) (peer_of c 4 _ (k0_dev5_eq c)) rfl).bind fun _ _ => ?_
  refine (does_signal 5 (by decide) (peer_of c 5 _ (k0_dev6_eq c)) rfl).bind fun _ _ => ?_
  refine (does_signal 6 (by decide) (peer_of c 6 _ (k0_dev7_eq c)) rfl).bind fun _ _ => ?_
  refine (does_answered rfl).bind fun _ _ => ?_
  exact Does.ret trivial

theorem part3 (v2 v48 v : BitVec 32) : Does m K c (atBufs (k0_part3 (F := F)) c v2 v48 v) (St m c (Mid m c 0 0) 0 1 (outFree c))
    (fun _ => True) (St m c (Mid m c 2 0) 2 1 (outFree c)) := by
  rw [k0_part3_eq_skeleton]; unfold atBufs k0_part3_skel
  refine (copy_at 0 (by decide) (by decide) (k0_dev8_eq c) rfl rfl rfl rfl).bind fun _ _ => ?_
  refine (copy_at 1 (by decide) (by decide) (k0_dev9_eq c) rfl rfl rfl rfl).bind fun _ _ => ?_
  exact Does.ret trivial

theorem part4 (v2 : BitVec 32) : Does m K c (atBufs (k0_part4 (F := F)) c v2) (St m c (Mid m c 2 0) 2 1 (outFree c))
    (fun _ => True) (St m c (Mid m c 4 0) 4 1 (outFree c)) := by
  rw [k0_part4_eq_skeleton]; unfold atBufs k0_part4_skel
  refine (copy_at 2 (by decide) (by decide) (k0_dev10_eq c) rfl rfl rfl rfl).bind fun _ _ => ?_
  refine (copy_at 3 (by decide) (by decide) (k0_dev11_eq c) rfl rfl rfl rfl).bind fun _ _ => ?_
  exact Does.ret trivial

theorem part5 (v2 : BitVec 32) : Does m K c (atBufs (k0_part5 (F := F)) c v2) (St m c (Mid m c 4 0) 4 1 (outFree c))
    (fun _ => True) (St m c (Mid m c 6 0) 6 1 (outFree c)) := by
  rw [k0_part5_eq_skeleton]; unfold atBufs k0_part5_skel
  refine (copy_at 4 (by decide) (by decide) (k0_dev12_eq c) rfl rfl rfl rfl).bind fun _ _ => ?_
  refine (copy_at 5 (by decide) (by decide) (k0_dev13_eq c) rfl rfl rfl rfl).bind fun _ _ => ?_
  exact Does.ret trivial

theorem part6 (v2 : BitVec 32) : Does m K c (atBufs (k0_part6 (F := F)) c v2 (partialOf m 0 c)) (St m c (Mid m c 6 0) 6 1 (outFree c))
    (fun x => x = acc m 0 c 1) (St m c (Mid m c 7 1) 7 1 (outFree c)) := by
  rw [k0_part6_eq_skeleton]; unfold atBufs k0_part6_skel
  refine (copy_at 6 (by decide) (by decide) (k0_dev14_eq c) rfl rfl rfl rfl).bind fun _ _ => ?_
  refine (does_receive (by decide) (by decide) rfl rfl).bind fun _ _ => ?_
  refine (does_read 0 (by decide) rfl).bind fun x0 h0 => ?_
  subst h0
  exact Does.ret (pay3_eq _ _)

theorem part7 (v2 : BitVec 32) : Does m K c (atBufs (k0_part7 (F := F)) v2 (acc m 0 c 1)) (St m c (Mid m c 7 1) 7 1 (outFree c))
    (fun x => x.1 = acc m 0 c 3) (St m c (Mid m c 7 3) 7 1 (outFree c)) := by
  rw [k0_part7_eq_skeleton]; unfold atBufs k0_part7_skel
  refine (does_receive (by decide) (by decide) rfl rfl).bind fun _ _ => ?_
  refine (does_read 1 (by decide) rfl).bind fun x1 h1 => ?_
  refine (does_receive (by decide) (by decide) rfl rfl).bind fun _ _ => ?_
  refine (does_read 2 (by decide) rfl).bind fun x2 h2 => ?_
  subst h1 h2
  exact Does.ret (pay4_eq _ _ _)

theorem part8 (v2 : BitVec 32) (v175 : BitVec 32) (v : BitVec 32) : Does m K c (atBufs (k0_part8 (F := F)) v2 (acc m 0 c 3) v175 v) (St m c (Mid m c 7 3) 7 1 (outFree c))
    (fun x => x.1 = acc m 0 c 5) (St m c (Mid m c 7 5) 7 1 (outFree c)) := by
  rw [k0_part8_eq_skeleton]; unfold atBufs k0_part8_skel
  refine (does_receive (by decide) (by decide) rfl rfl).bind fun _ _ => ?_
  refine (does_read 3 (by decide) rfl).bind fun x3 h3 => ?_
  refine (does_receive (by decide) (by decide) rfl rfl).bind fun _ _ => ?_
  refine (does_read 4 (by decide) rfl).bind fun x4 h4 => ?_
  subst h3 h4
  exact Does.ret (pay5_eq _ _ _)

theorem part9 (v2 : BitVec 32) (v202 : BitVec 32) : Does m K c (atBufs (k0_part9 (F := F)) v2 (acc m 0 c 5) v202) (St m c (Mid m c 7 5) 7 1 (outFree c))
    (fun x => x.1 = acc m 0 c 6 ∧ x.2 = sent m 0 (peer c 6)) (St m c (Mid m c 7 7) 7 1 (outFree c)) := by
  rw [k0_part9_eq_skeleton]; unfold atBufs k0_part9_skel
  refine (does_receive (by decide) (by decide) rfl rfl).bind fun _ _ => ?_
  refine (does_read 5 (by decide) rfl).bind fun x5 h5 => ?_
  refine (does_receive (by decide) (by decide) rfl rfl).bind fun _ _ => ?_
  refine (does_read 6 (by decide) rfl).bind fun x6 h6 => ?_
  subst h5 h6
  exact Does.ret ⟨pay6_eq _ _, pay7_eq (sent m 0 (peer c 6))⟩

theorem part10 (v2 : BitVec 32) : Does m K c (atBufs (k0_part10 (F := F)) c v2 (acc m 0 c 6) (sent m 0 (peer c 6))) (St m c (Mid m c 7 7) 7 1 (outFree c))
    (fun x => x.1 = partialOf m 1 c) (St m c (Mid m c 8 7) 8 2 (outFree c)) := by
  rw [k0_part10_eq_skeleton]; unfold atBufs k0_part10_skel
  refine (does_in 3 (does_load (Memref.whole cc0_stg3_0) (w1 m c) (Memref.readAt_unit_zero (Elt F) cc0_stg3_0 off2 _ _))).bind fun w hw => ?_
  refine (does_in 4 (does_load (Memref.whole cc0_stg4_0) (v1 m c) (Memref.readAt_unit_zero (Elt F) cc0_stg4_0 off2 _ _))).bind fun v hv => ?_
  refine (does_peek 1 (by decide) rfl).bind fun _ _ => ?_
  subst hw hv
  refine (does_put 1 (by decide) rfl (pay9_eq _ _ _ _)).bind fun _ _ => ?_
  refine (copy_at 7 (by decide) (by decide) (k0_dev15_eq c) rfl rfl rfl rfl).bind fun _ _ => ?_
  exact Does.ret (pay8_eq _ _ _ _)

theorem part11 (v2 : BitVec 32) (v256 : BitVec 32) : Does m K c (atBufs (k0_part11 (F := F)) c v2 v256) (St m c (Mid m c 8 7) 8 2 (outFree c))
    (fun _ => True) (St m c (Mid m c 10 7) 10 2 (outFree c)) := by
  rw [k0_part11_eq_skeleton]; unfold atBufs k0_part11_skel
  refine (copy_at 8 (by decide) (by decide) (k0_dev16_eq c) rfl rfl rfl rfl).bind fun _ _ => ?_
  refine (copy_at 9 (by decide) (by decide) (k0_dev17_eq c) rfl rfl rfl rfl).bind fun _ _ => ?_
  exact Does.ret trivial

theorem part12 (v2 : BitVec 32) (v280 : BitVec 32) : Does m K c (atBufs (k0_part12 (F := F)) c v2 v280) (St m c (Mid m c 10 7) 10 2 (outFree c))
    (fun _ => True) (St m c (Mid m c 12 7) 12 2 (outFree c)) := by
  rw [k0_part12_eq_skeleton]; unfold atBufs k0_part12_skel
  refine (copy_at 10 (by decide) (by decide) (k0_dev18_eq c) rfl rfl rfl rfl).bind fun _ _ => ?_
  refine (copy_at 11 (by decide) (by decide) (k0_dev19_eq c) rfl rfl rfl rfl).bind fun _ _ => ?_
  exact Does.ret trivial

theorem part13 (v2 : BitVec 32) (v305 : BitVec 32) : Does m K c (atBufs (k0_part13 (F := F)) c v2 v305) (St m c (Mid m c 12 7) 12 2 (outFree c))
    (fun _ => True) (St m c (Mid m c 14 7) 14 2 (outFree c)) := by
  rw [k0_part13_eq_skeleton]; unfold atBufs k0_part13_skel
  refine (copy_at 12 (by decide) (by decide) (k0_dev20_eq c) rfl rfl rfl rfl).bind fun _ _ => ?_
  refine (copy_at 13 (by decide) (by decide) (k0_dev21_eq c) rfl rfl rfl rfl).bind fun _ _ => ?_
  exact Does.ret trivial

theorem part14 (v2 : BitVec 32) : Does m K c (atBufs (k0_part14 (F := F)) v2 (partialOf m 1 c)) (St m c (Mid m c 14 7) 14 2 (outFree c))
    (fun x => x.1 = acc m 1 c 2) (St m c (Mid m c 14 9) 14 2 (outFree c)) := by
  rw [k0_part14_eq_skeleton]; unfold atBufs k0_part14_skel
  refine (does_receive (by decide) (by decide) rfl rfl).bind fun _ _ => ?_
  refine (does_read 7 (by decide) rfl).bind fun x0 h0 => ?_
  refine (does_receive (by decide) (by decide) rfl rfl).bind fun _ _ => ?_
  refine (does_read 8 (by decide) rfl).bind fun x1 h1 => ?_
  subst h0 h1
  exact Does.ret (pay10_eq _ _ _)

theorem part15 (v2 : BitVec 32) (v356 : BitVec 32) : Does m K c (atBufs (k0_part15 (F := F)) v2 (acc m 1 c 2) v356) (St m c (Mid m c 14 9) 14 2 (outFree c))
    (fun x => x.1 = acc m 1 c 4) (St m c (Mid m c 14 11) 14 2 (outFree c)) := by
  rw [k0_part15_eq_skeleton]; unfold atBufs k0_part15_skel
  refine (does_receive (by decide) (by decide) rfl rfl).bind fun _ _ => ?_
  refine (does_read 9 (by decide) rfl).bind fun x2 h2 => ?_
  refine (does_receive (by decide) (by decide) rfl rfl).bind fun _ _ => ?_
  refine (does_read 10 (by decide) rfl).bind fun x3 h3 => ?_
  subst h2 h3
  exact Does.ret (pay11_eq _ _ _)

theorem part16 (v2 : BitVec 32) (v : BitVec 32) : Does m K c (atBufs (k0_part16 (F := F)) v2 (acc m 1 c 4) v) (St m c (Mid m c 14 11) 14 2 (outFree c))
    (fun x => x = acc m 1 c 5) (St m c (Mid m c 14 13) 14 2 (outFree c)) := by
  rw [k0_part16_eq_skeleton]; unfold atBufs k0_part16_skel
  refine (does_receive (by decide) (by decide) rfl rfl).bind fun _ _ => ?_
  refine (does_read 11 (by decide) rfl).bind fun x4 h4 => ?_
  refine (does_receive (by decide) (by decide) rfl rfl).bind fun _ _ => ?_
  subst h4
  exact Does.ret (pay12_eq _ _)

theorem part17 (v2 : BitVec 32) : Does m K c (atBufs (k0_part17 (F := F)) v2 (acc m 1 c 5)) (St m c (Mid m c 14 13) 14 2 (outFree c))
    (fun x => x.1 = partialOf m 2 c ∧ x.2 = sent m 2 c) (St m c (Mid m c 14 14) 14 2 (outFree c)) := by
  rw [k0_part17_eq_skeleton]; unfold atBufs k0_part17_skel
  refine (does_read 12 (by decide) rfl).bind fun x5 h5 => ?_
  refine (does_receive (by decide) (by decide) rfl rfl).bind fun _ _ => ?_
  refine (does_read 13 (by decide) rfl).bind fun x6 h6 => ?_
  refine (does_in 5 (does_load (Memref.whole cc0_stg5_0) (w2 m c) (Memref.readAt_unit_zero (Elt F) cc0_stg5_0 off2 _ _))).bind fun w hw => ?_
  refine (does_in 6 (does_load (Memref.whole cc0_stg6_0) (Cert.MeshMlp.v2 m c) (Memref.readAt_unit_zero (Elt F) cc0_stg6_0 off2 _ _))).bind fun v hv => ?_
  subst h5 h6 hw hv
  exact Does.ret ⟨pay13_eq (acc m 1 c 5) (sent m 1 (peer c 5)) (sent m 1 (peer c 6)) _ _, pay14_eq (acc m 1 c 5) (sent m 1 (peer c 5)) (sent m 1 (peer c 6)) _ _⟩

theorem part18 (v2 : BitVec 32) : Does m K c (atBufs (k0_part18 (F := F)) c v2 (sent m 2 c)) (St m c (Mid m c 14 14) 14 2 (outFree c))
    (fun _ => True) (St m c (Mid m c 15 14) 15 3 (outFree c)) := by
  rw [k0_part18_eq_skeleton]; unfold atBufs k0_part18_skel
  refine (does_peek 2 (by decide) rfl).bind fun _ _ => ?_
  refine (does_put 2 (by decide) rfl rfl).bind fun _ _ => ?_
  refine (copy_at 14 (by decide) (by decide) (k0_dev22_eq c) rfl rfl rfl rfl).bind fun _ _ => ?_
  exact Does.ret trivial

theorem part19 (v2 : BitVec 32) : Does m K c (atBufs (k0_part19 (F := F)) c v2) (St m c (Mid m c 15 14) 15 3 (outFree c))
    (fun _ => True) (St m c (Mid m c 18 14) 18 3 (outFree c)) := by
  rw [k0_part19_eq_skeleton]; unfold atBufs k0_part19_skel
  refine (copy_at 15 (by decide) (by decide) (k0_dev23_eq c) rfl rfl rfl rfl).bind fun _ _ => ?_
  refine (copy_at 16 (by decide) (by decide) (k0_dev24_eq c) rfl rfl rfl rfl).bind fun _ _ => ?_
  refine (copy_at 17 (by decide) (by decide) (k0_dev25_eq c) rfl rfl rfl rfl).bind fun _ _ => ?_
  exact Does.ret trivial

theorem part20 (v2 : BitVec 32) (v487 : BitVec 32) : Does m K c (atBufs (k0_part20 (F := F)) c v2 v487) (St m c (Mid m c 18 14) 18 3 (outFree c))
    (fun _ => True) (St m c (Mid m c 20 14) 20 3 (outFree c)) := by
  rw [k0_part20_eq_skeleton]; unfold atBufs k0_part20_skel
  refine (copy_at 18 (by decide) (by decide) (k0_dev26_eq c) rfl rfl rfl rfl).bind fun _ _ => ?_
  refine (copy_at 19 (by decide) (by decide) (k0_dev27_eq c) rfl rfl rfl rfl).bind fun _ _ => ?_
  exact Does.ret trivial

theorem part21 (v2 : BitVec 32) (v512 : BitVec 32) : Does m K c (atBufs (k0_part21 (F := F)) c v2 (partialOf m 2 c) v512) (St m c (Mid m c 20 14) 20 3 (outFree c))
    (fun x => x.1 = acc m 2 c 1) (St m c (Mid m c 21 15) 21 3 (outFree c)) := by
  rw [k0_part21_eq_skeleton]; unfold atBufs k0_part21_skel
  refine (copy_at 20 (by decide) (by decide) (k0_dev28_eq c) rfl rfl rfl rfl).bind fun _ _ => ?_
  refine (does_receive (by decide) (by decide) rfl rfl).bind fun _ _ => ?_
  refine (does_read 14 (by decide) rfl).bind fun x0 h0 => ?_
  subst h0
  exact Does.ret (pay16_eq _ _)

theorem part22 (v2 : BitVec 32) (v538 : BitVec 32) : Does m K c (atBufs (k0_part22 (F := F)) v2 (acc m 2 c 1) v538) (St m c (Mid m c 21 15) 21 3 (outFree c))
    (fun x => x = acc m 2 c 2) (St m c (Mid m c 21 17) 21 3 (outFree c)) := by
  rw [k0_part22_eq_skeleton]; unfold atBufs k0_part22_skel
  refine (does_receive (by decide) (by decide) rfl rfl).bind fun _ _ => ?_
  refine (does_read 15 (by decide) rfl).bind fun x1 h1 => ?_
  refine (does_receive (by decide) (by decide) rfl rfl).bind fun _ _ => ?_
  subst h1
  exact Does.ret (pay17_eq _ _)

theorem part23 (v2 : BitVec 32) : Does m K c (atBufs (k0_part23 (F := F)) v2 (acc m 2 c 2)) (St m c (Mid m c 21 17) 21 3 (outFree c))
    (fun x => x = acc m 2 c 4) (St m c (Mid m c 21 18) 21 3 (outFree c)) := by
  rw [k0_part23_eq_skeleton]; unfold atBufs k0_part23_skel
  refine (does_read 16 (by decide) rfl).bind fun x2 h2 => ?_
  refine (does_receive (by decide) (by decide) rfl rfl).bind fun _ _ => ?_
  refine (does_read 17 (by decide) rfl).bind fun x3 h3 => ?_
  subst h2 h3
  exact Does.ret (pay18_eq _ _ _)

theorem part24 (v2 : BitVec 32) : Does m K c (atBufs (k0_part24 (F := F)) v2 (acc m 2 c 4)) (St m c (Mid m c 21 18) 21 3 (outFree c))
    (fun x => x.1 = acc m 2 c 6) (St m c (Mid m c 21 20) 21 3 (outFree c)) := by
  rw [k0_part24_eq_skeleton]; unfold atBufs k0_part24_skel
  refine (does_receive (by decide) (by decide) rfl rfl).bind fun _ _ => ?_
  refine (does_read 18 (by decide) rfl).bind fun x4 h4 => ?_
  refine (does_receive (by decide) (by decide) rfl rfl).bind fun _ _ => ?_
  refine (does_read 19 (by decide) rfl).bind fun x5 h5 => ?_
  subst h4 h5
  exact Does.ret (pay19_eq _ _ _)

theorem part25 (v609 v : BitVec 32) : Does m K c (atBufs (k0_part25 (F := F)) (acc m 2 c 6) v609 v) (St m c (Mid m c 21 20) 21 3 (outFree c))
    (fun _ => True) (St m c (Late m c 1) 21 3 (outDone m c)) := by
  rw [k0_part25_eq_skeleton]; unfold atBufs k0_part25_skel
  refine (does_receive (by decide) (by decide) rfl rfl).bind fun _ _ => ?_
  refine (does_read 20 (by decide) rfl).bind fun x h => ?_
  subst h
  refine does_outpeek.bind fun _ _ => ?_
  refine (does_out off2 (pay20_eq _ _)).bind fun _ _ => ?_
  refine ((does_drain 0 (by decide) rfl rfl).before late_intro).bind fun _ _ => ?_
  exact Does.ret trivial

theorem part26 : Does m K c (atBufs (k0_part26 (F := F))) (St m c (Late m c 1) 21 3 (outDone m c))
    (fun _ => True) (St m c (Late m c 5) 21 3 (outDone m c)) := by
  rw [k0_part26_eq_skeleton]; unfold atBufs k0_part26_skel
  refine (does_drain 1 (by decide) rfl rfl).bind fun _ _ => ?_
  refine (does_drain 2 (by decide) rfl rfl).bind fun _ _ => ?_
  refine (does_drain 3 (by decide) rfl rfl).bind fun _ _ => ?_
  refine (does_drain 4 (by decide) rfl rfl).bind fun _ _ => ?_
  exact Does.ret trivial

theorem part27 : Does m K c (atBufs (k0_part27 (F := F))) (St m c (Late m c 5) 21 3 (outDone m c))
    (fun _ => True) (St m c (Late m c 8) 21 3 (outDone m c)) := by
  rw [k0_part27_eq_skeleton]; unfold atBufs k0_part27_skel
  refine (does_drain 5 (by decide) rfl rfl).bind fun _ _ => ?_
  refine (does_drain 6 (by decide) rfl rfl).bind fun _ _ => ?_
  refine (does_drain 7 (by decide) rfl rfl).bind fun _ _ => ?_
  exact Does.ret trivial

theorem part28 : Does m K c (atBufs (k0_part28 (F := F))) (St m c (Late m c 8) 21 3 (outDone m c))
    (fun _ => True) (St m c (Late m c 11) 21 3 (outDone m c)) := by
  rw [k0_part28_eq_skeleton]; unfold atBufs k0_part28_skel
  refine (does_drain 8 (by decide) rfl rfl).bind fun _ _ => ?_
  refine (does_drain 9 (by decide) rfl rfl).bind fun _ _ => ?_
  refine (does_drain 10 (by decide) rfl rfl).bind fun _ _ => ?_
  exact Does.ret trivial

theorem part29 : Does m K c (atBufs (k0_part29 (F := F))) (St m c (Late m c 11) 21 3 (outDone m c))
    (fun _ => True) (St m c (Late m c 14) 21 3 (outDone m c)) := by
  rw [k0_part29_eq_skeleton]; unfold atBufs k0_part29_skel
  refine (does_drain 11 (by decide) rfl rfl).bind fun _ _ => ?_
  refine (does_drain 12 (by decide) rfl rfl).bind fun _ _ => ?_
  refine (does_drain 13 (by decide) rfl rfl).bind fun _ _ => ?_
  exact Does.ret trivial

theorem part30 : Does m K c (atBufs (k0_part30 (F := F))) (St m c (Late m c 14) 21 3 (outDone m c))
    (fun _ => True) (St m c (Late m c 17) 21 3 (outDone m c)) := by
  rw [k0_part30_eq_skeleton]; unfold atBufs k0_part30_skel
  refine (does_drain 14 (by decide) rfl rfl).bind fun _ _ => ?_
  refine (does_drain 15 (by decide) rfl rfl).bind fun _ _ => ?_
  refine (does_drain 16 (by decide) rfl rfl).bind fun _ _ => ?_
  exact Does.ret trivial

theorem part31 : Does m K c (atBufs (k0_part31 (F := F))) (St m c (Late m c 17) 21 3 (outDone m c))
    (fun _ => True) (St m c (Late m c 20) 21 3 (outDone m c)) := by
  rw [k0_part31_eq_skeleton]; unfold atBufs k0_part31_skel
  refine (does_drain 17 (by decide) rfl rfl).bind fun _ _ => ?_
  refine (does_drain 18 (by decide) rfl rfl).bind fun _ _ => ?_
  refine (does_drain 19 (by decide) rfl rfl).bind fun _ _ => ?_
  exact Does.ret trivial

/-! ## The body -/

theorem body : Does m K c (atBufs (cc0_body (F := F))) (St m c (Early c 0) 0 0 (outFree c)) (fun _ => True) (St m c (Late m c 21) 21 3 (outDone m c)) := by
  rw [cc0_body_eq_skeleton]; unfold atBufs cc0_body_skel
  refine part1.bind fun x h => ?_
  obtain ⟨d, v2, v3, v14, v28⟩ := x
  obtain ⟨h1, h2, h3⟩ := h
  dsimp only at h1 h2 h3
  subst h1 h2 h3
  refine (part2 _ _).bind fun x _ => ?_
  obtain ⟨v48, c48⟩ := x
  refine (part3 _ _ _).bind fun _ _ => ?_
  refine (part4 _).bind fun _ _ => ?_
  refine (part5 _).bind fun _ _ => ?_
  refine (part6 _).bind fun x h => ?_
  subst h
  refine (part7 _).bind fun x h => ?_
  obtain ⟨v172, v175, c0⟩ := x
  dsimp only at h
  subst h
  refine (part8 _ _ _).bind fun x h => ?_
  obtain ⟨v200, v202⟩ := x
  dsimp only at h
  subst h
  refine (part9 _ _).bind fun x h => ?_
  obtain ⟨v214, v226⟩ := x
  obtain ⟨h1, h2⟩ := h
  dsimp only at h1 h2
  subst h1 h2
  refine (part10 _).bind fun x h => ?_
  obtain ⟨v238, v256⟩ := x
  dsimp only at h
  subst h
  refine (part11 _ _).bind fun _ _ => ?_
  refine (part12 _ _).bind fun _ _ => ?_
  refine (part13 _ _).bind fun _ _ => ?_
  refine (part14 _).bind fun x h => ?_
  obtain ⟨v354, v356⟩ := x
  dsimp only at h
  subst h
  refine (part15 _ _).bind fun x h => ?_
  obtain ⟨v382, c5⟩ := x
  dsimp only at h
  subst h
  refine (part16 _ _).bind fun x h => ?_
  subst h
  refine (part17 _).bind fun x h => ?_
  obtain ⟨v434, v435⟩ := x
  obtain ⟨h1, h2⟩ := h
  dsimp only at h1 h2
  subst h1 h2
  refine (part18 _).bind fun _ _ => ?_
  refine (part19 _).bind fun _ _ => ?_
  refine (part20 _ _).bind fun _ _ => ?_
  refine (part21 _ _).bind fun x h => ?_
  obtain ⟨v536, v538⟩ := x
  dsimp only at h
  subst h
  refine (part22 _ _).bind fun x h => ?_
  subst h
  refine (part23 _).bind fun x h => ?_
  subst h
  refine (part24 _).bind fun x h => ?_
  obtain ⟨v606, v609, c0⟩ := x
  dsimp only at h
  subst h
  refine (part25 _ _).bind fun _ _ => ?_
  refine part26.bind fun _ _ => ?_
  refine part27.bind fun _ _ => ?_
  refine part28.bind fun _ _ => ?_
  refine part29.bind fun _ _ => ?_
  refine part30.bind fun _ _ => ?_
  refine part31.bind fun _ _ => ?_
  refine (does_drain 20 (by decide) rfl rfl).bind fun _ _ => ?_
  exact Does.ret trivial

end Cert.MeshMlp
-- ==== Proof.Bufs.lean ====
/-
The two buffers held piece by piece.

The receive buffer is its twenty-one slots and a device's own buffer its three rows; the launch hands both whole and
takes both back whole.
-/
module

public import proofs.«01_k».proof.Proof.Does

@[expose] public section

noncomputable section

namespace Cert.MeshMlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]

local notation "𝕄" => MT nD τ sig Unit (Elt F) ℕ UU ℕ

variable (m : (ℓ : Loc nD τ sig) → Buf (Elt F) ℓ) (c : Dev nD)

/-! ## The pieces' elements -/

theorem slot_set (p : P) : (slotM p).view.set = (slotR p).set := by
  rw [View.set_reshape]; exact View.set_slice_whole cc0_scratch0 (slotR p)
theorem row_set (l : Fin 3) : (rowM l).view.set = (rowR l).set := by
  rw [View.set_reshape]; exact View.set_slice_whole cc0_scratch1 (rowR l)

theorem slot_apart (p p' : P) (h : p ≠ p') : Disjoint (slotM p).view.set (slotM p').view.set := by
  rw [slot_set, slot_set]
  by_cases h1 : p.1 = p'.1
  · have h2 : p.2.val ≠ p'.2.val := fun e => h (Prod.ext h1 (Fin.ext e))
    exact Rect.disjoint_of_axis _ _ (1 : Fin 4) fun j₁ h₁ j₂ h₂ => by
      have h₁ : j₁ < 1 := h₁
      have h₂ : j₂ < 1 := h₂
      show p.2.val + 1 * j₁ ≠ p'.2.val + 1 * j₂
      omega
  · have h2 : p.1.val ≠ p'.1.val := fun e => h1 (Fin.ext e)
    exact Rect.disjoint_of_axis _ _ (0 : Fin 4) fun j₁ h₁ j₂ h₂ => by
      have h₁ : j₁ < 1 := h₁
      have h₂ : j₂ < 1 := h₂
      show p.1.val + 1 * j₁ ≠ p'.1.val + 1 * j₂
      omega

theorem row_apart (l l' : Fin 3) (h : l ≠ l') : Disjoint (rowM l).view.set (rowM l').view.set := by
  rw [row_set, row_set]
  have h2 : l.val ≠ l'.val := fun e => h (Fin.ext e)
  exact Rect.disjoint_of_axis _ _ (0 : Fin 3) fun j₁ h₁ j₂ h₂ => by
    have h₁ : j₁ < 1 := h₁
    have h₂ : j₂ < 1 := h₂
    show l.val + 1 * j₁ ≠ l'.val + 1 * j₂
    omega

theorem slot_cover : (Finset.univ : Finset P).biUnion (fun p => (slotM p).view.set) = (Finset.univ : Finset (S3x7x64x512).Idx) := by
  ext i
  simp only [Finset.mem_biUnion, Finset.mem_univ, true_and, iff_true]
  have i0 : (i 0).val < 3 := (i 0).isLt
  have i1 : (i 1).val < 7 := (i 1).isLt
  have i2 : (i 2).val < 64 := (i 2).isLt
  have i3 : (i 3).val < 512 := (i 3).isLt
  refine ⟨(⟨(i 0).val, i0⟩, ⟨(i 1).val, i1⟩), ?_⟩
  rw [slot_set, Rect.mem_set_unit]
  intro a
  fin_cases a
  · exact ⟨le_rfl, Nat.lt_succ_self _⟩
  · exact ⟨le_rfl, Nat.lt_succ_self _⟩
  · exact ⟨Nat.zero_le _, (Nat.zero_add 64).symm ▸ i2⟩
  · exact ⟨Nat.zero_le _, (Nat.zero_add 512).symm ▸ i3⟩

theorem row_cover : (Finset.univ : Finset (Fin 3)).biUnion (fun l => (rowM l).view.set) = (Finset.univ : Finset (S3x64x512).Idx) := by
  ext i
  simp only [Finset.mem_biUnion, Finset.mem_univ, true_and, iff_true]
  have i0 : (i 0).val < 3 := (i 0).isLt
  have i1 : (i 1).val < 64 := (i 1).isLt
  have i2 : (i 2).val < 512 := (i 2).isLt
  refine ⟨⟨(i 0).val, i0⟩, ?_⟩
  rw [row_set, Rect.mem_set_unit]
  intro a
  fin_cases a
  · exact ⟨le_rfl, Nat.lt_succ_self _⟩
  · exact ⟨Nat.zero_le _, (Nat.zero_add 64).symm ▸ i1⟩
  · exact ⟨Nat.zero_le _, (Nat.zero_add 512).symm ▸ i2⟩

/-! ## Splitting and joining -/

/-- A scratch buffer of device `c`, whole, at contents nobody has named. -/
abbrev scratch (b : Ref sig .tc) : sProp 𝕄 := iprop(∃ f : Buf (Elt F) ((c : Thread nD τ).loc b), ((c : Thread nD τ).loc b) ↦{fullShare} f)

omit [FloatOps F] in
theorem free_of (M : Memref sig .tc .vmem S64x512 .bf16) (c : Dev nD) (f : Buf (Elt F) (M.view.loc (c : Thread nD τ))) :
    (M.view.loc (c : Thread nD τ) ↦[M.view.set]{fullShare} f : sProp 𝕄) ⊢ free M c := by
  unfold free; iintro H; iexists f; iexact H

omit [FloatOps F] in
theorem slots_split : scratch (F := F) c cc0_scratch0 ⊢ bigSep Finset.univ fun p : P => free (slotM p) c := by
  iintro ⟨%f, H⟩
  ihave H := (Entails.of_eq (Ring.pointsTo_blocks (ℓ := (c : Thread nD τ).loc cc0_scratch0) (fun p : P => (slotM p).view.set) slot_apart slot_cover f)) $$ H
  iapply (show (bigSep Finset.univ fun p : P => ((c : Thread nD τ).loc cc0_scratch0 ↦[(slotM p).view.set]{fullShare} f : sProp 𝕄)) ⊢ bigSep Finset.univ fun p : P => free (slotM p) c
    from bigSep_mono fun p _ => free_of (slotM p) c f) $$ H

omit [FloatOps F] in
include m in
theorem slots_join : (bigSep Finset.univ fun p : P => free (F := F) (slotM p) c) ⊢ scratch c cc0_scratch0 := by
  exact (show _ ⊢ _ from Ring.pointsTo_blocks_join_exists (ℓ := (c : Thread nD τ).loc cc0_scratch0) (fun p : P => (slotM p).view.set) slot_apart slot_cover
    (m ((c : Thread nD τ).loc cc0_scratch0)))

omit [FloatOps F] in
theorem rows_split : scratch (F := F) c cc0_scratch1 ⊢ bigSep Finset.univ fun l : Fin 3 => free (rowM l) c := by
  iintro ⟨%f, H⟩
  ihave H := (Entails.of_eq (Ring.pointsTo_blocks (ℓ := (c : Thread nD τ).loc cc0_scratch1) (fun l : Fin 3 => (rowM l).view.set) row_apart row_cover f)) $$ H
  iapply (show (bigSep Finset.univ fun l : Fin 3 => ((c : Thread nD τ).loc cc0_scratch1 ↦[(rowM l).view.set]{fullShare} f : sProp 𝕄)) ⊢ bigSep Finset.univ fun l : Fin 3 => free (rowM l) c
    from bigSep_mono fun l _ => free_of (rowM l) c f) $$ H

omit [FloatOps F] in
include m in
theorem rows_join : (bigSep Finset.univ fun l : Fin 3 => free (F := F) (rowM l) c) ⊢ scratch c cc0_scratch1 := by
  exact (show _ ⊢ _ from Ring.pointsTo_blocks_join_exists (ℓ := (c : Thread nD τ).loc cc0_scratch1) (fun l : Fin 3 => (rowM l).view.set) row_apart row_cover
    (m ((c : Thread nD τ).loc cc0_scratch1)))

/-! ## At the start -/

theorem rows_start : scratch (F := F) c cc0_scratch1 ⊢ Rows m c 0 0 := by
  refine (rows_split c).trans ?_
  unfold Rows
  exact bigSep_mono fun l _ => by unfold rowAt; rw [if_neg (Nat.not_lt_zero _)]; exact BI.Entails.refl _

/-- The slots, grouped by the device that fills them. -/
theorem slots_start : scratch (F := F) c cc0_scratch0 ⊢ bigSep (Finset.Ico 0 7) fun n => give (F := F) c (dec n).2 := by
  refine (slots_split c).trans ?_
  rw [bigSep_univ_prod, BI.bigSep_univ_comm, bigSep_seven]
  exact bigSep_mono fun n _ => by rw [bigSep_three]; unfold give; exact BI.Entails.refl _

/-! ## At the end -/

/-- A row and the seven shares of it lent out, together again. -/
theorem row_whole (l : Fin 3) :
    iprop(row m c l 7 ∗ bigSep Finset.univ fun k : Fin 7 => sendPay m c (l, k)) ⊢ free (rowM l) c := by
  refine BI.Entails.trans ?_ (holds_free m (rowM l) c (sent m l.val c))
  unfold row sendPay holds
  exact Transfers.pointsTo_toks_join fullShare 7

theorem rows_end : iprop(Rows m c 21 3 ∗ bigSep (Finset.Ico 0 21) fun n => sendPay m c (dec n)) ⊢ scratch (F := F) c cc0_scratch1 := by
  refine BI.Entails.trans ?_ (rows_join m c)
  unfold Rows
  rw [← bigSep_pos (fun p => sendPay m c p), bigSep_univ_prod]
  refine (sep_join Finset.univ _ _).trans (bigSep_mono fun l _ => ?_)
  refine BI.Entails.trans ?_ (row_whole m c l)
  unfold rowAt
  rw [if_pos l.isLt, show min 7 (21 - 7 * l.val) = 7 by have := l.isLt; omega]
  exact BI.Entails.refl _

theorem slots_end : (bigSep (Finset.Ico 0 21) fun n => recvPay m c (dec n)) ⊢ scratch (F := F) c cc0_scratch0 := by
  refine BI.Entails.trans ?_ (slots_join m c)
  rw [← bigSep_pos (fun p => recvPay m c p)]
  exact bigSep_mono fun p _ => by unfold recvPay; exact holds_free m _ _ _

end Cert.MeshMlp
-- ==== Proof.Run.lean ====
/-
The data of the one pipelined call, and the body proved against it.
-/
module

public import proofs.«01_k».proof.Proof.Parts
public import proofs.«01_k».proof.Proof.Bufs

@[expose] public section

noncomputable section

namespace Cert.MeshMlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The data of the pipelined call -/

/-- What device `c` owes at launch: its seven signals and its twenty-one copies. -/
abbrev O₀ (c : Dev nD) : CellTallies nD τ sig Unit := oweBar c 0

/-- What device `c` starts from, its buffers apart. -/
def start (c : Dev nD) : sProp 𝕄 :=
  iprop((∃ K, known m K) ∗ (bigSep (Finset.Ico 0 7) fun n => dutyTok ER (barCell (peer c (dec n).2)) 0 (dec n).2.rev) ∗ Idle c ∗ sendsAt c)

def Φ₀ (c : Dev nD) : sProp 𝕄 := iprop(start m c ∗ (bigSep (Finset.Ico 0 7) fun n => give (F := F) c (dec n).2) ∗ Rows m c 0 0)

def Φ₁ (c : Dev nD) : sProp 𝕄 :=
  iprop((bigSep (Finset.Ico 0 21) fun n => iprop(semVal (sendCell c (dec n)) 0 ∗ sendPay m c (dec n))) ∗ Filled m c ∗ semVal (barCell c) 0 ∗ Rows m c 21 3)

def dats (_ : Fin 1) (c : Dev nD) : Dat τ (Elt F) Unit ℕ UU ℕ cfg0 c where
  A w := m ((cfg0.win w).arr.view.loc (c : Thread nD τ))
  after w _ := match w with
    | ⟨0, _⟩ => xin m c
    | ⟨1, _⟩ => w0 m c
    | ⟨2, _⟩ => v0 m c
    | ⟨3, _⟩ => w1 m c
    | ⟨4, _⟩ => v1 m c
    | ⟨5, _⟩ => w2 m c
    | ⟨6, _⟩ => v2 m c
    | ⟨7, _⟩ => act m 3 c
  Φ t := match t with
    | ⟨0, _⟩ => Φ₀ m c
    | ⟨_ + 1, _⟩ => Φ₁ m c
  q _ := fullShare
  owed t := match t with
    | ⟨0, _⟩ => O₀ c
    | ⟨_ + 1, _⟩ => 0

section Body
variable (c : Dev nD)

omit [FloatOps F] in
theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem staged0 (d) : (dats m 0 c).before (0 : Fin 8) t0_0 d = xin m c := by unfold Dat.before; rw [if_pos (fetch0_0 t0_0)]; rfl
theorem staged1 (d) : (dats m 0 c).before (1 : Fin 8) t0_0 d = w0 m c := by unfold Dat.before; rw [if_pos (fetch0_1 t0_0)]; rfl
theorem staged2 (d) : (dats m 0 c).before (2 : Fin 8) t0_0 d = v0 m c := by unfold Dat.before; rw [if_pos (fetch0_2 t0_0)]; rfl
theorem staged3 (d) : (dats m 0 c).before (3 : Fin 8) t0_0 d = w1 m c := by unfold Dat.before; rw [if_pos (fetch0_3 t0_0)]; rfl
theorem staged4 (d) : (dats m 0 c).before (4 : Fin 8) t0_0 d = v1 m c := by unfold Dat.before; rw [if_pos (fetch0_4 t0_0)]; rfl
theorem staged5 (d) : (dats m 0 c).before (5 : Fin 8) t0_0 d = w2 m c := by unfold Dat.before; rw [if_pos (fetch0_5 t0_0)]; rfl
theorem staged6 (d) : (dats m 0 c).before (6 : Fin 8) t0_0 d = v2 m c := by unfold Dat.before; rw [if_pos (fetch0_6 t0_0)]; rfl

/-- A staging buffer at contents equal to `X`, as the library states it. -/
abbrev at' (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
theorem at'_eq (b : Ref sig .tc) (X : b.ty.Contents (Elt F)) : at' c b X = stg c b X := by
  refine BI.Entails.antisymm (show at' c b X ⊢ stg c b X from ?_) (show stg c b X ⊢ at' c b X from ?_)
  · iintro ⟨%f, %h, H⟩; subst h; iexact H
  · iintro H; iexists X; isplitr
    · ipureintro; rfl
    · iexact H

/-- What the library hands the body; -/
def bodyPre : sProp 𝕄 :=
  iprop(Φ₀ m c ∗ (dats m 0 c).owesAt () t0_0.castSucc
    ∗ (∃ d, at' c cc0_stg0_0 ((dats m 0 c).before (0 : Fin 8) t0_0 d))
    ∗ (∃ d, at' c cc0_stg1_0 ((dats m 0 c).before (1 : Fin 8) t0_0 d))
    ∗ (∃ d, at' c cc0_stg2_0 ((dats m 0 c).before (2 : Fin 8) t0_0 d))
    ∗ (∃ d, at' c cc0_stg3_0 ((dats m 0 c).before (3 : Fin 8) t0_0 d))
    ∗ (∃ d, at' c cc0_stg4_0 ((dats m 0 c).before (4 : Fin 8) t0_0 d))
    ∗ (∃ d, at' c cc0_stg5_0 ((dats m 0 c).before (5 : Fin 8) t0_0 d))
    ∗ (∃ d, at' c cc0_stg6_0 ((dats m 0 c).before (6 : Fin 8) t0_0 d))
    ∗ (∃ d, at' c cc0_stg7_0 ((dats m 0 c).before (7 : Fin 8) t0_0 d)))
/-- what it wants back. -/
def bodyPost : sProp 𝕄 :=
  iprop(Φ₁ m c ∗ (dats m 0 c).owesAt () t0_0.succ
    ∗ at' c cc0_stg0_0 (xin m c) ∗ at' c cc0_stg1_0 (w0 m c) ∗ at' c cc0_stg2_0 (v0 m c) ∗ at' c cc0_stg3_0 (w1 m c)
    ∗ at' c cc0_stg4_0 (v1 m c) ∗ at' c cc0_stg5_0 (w2 m c) ∗ at' c cc0_stg6_0 (v2 m c) ∗ at' c cc0_stg7_0 (act m 3 c))

theorem ins_eq : Ins m c = iprop(stg c cc0_stg0_0 (xin m c) ∗ stg c cc0_stg1_0 (w0 m c) ∗ stg c cc0_stg2_0 (v0 m c) ∗ stg c cc0_stg3_0 (w1 m c)
    ∗ stg c cc0_stg4_0 (v1 m c) ∗ stg c cc0_stg5_0 (w2 m c) ∗ stg c cc0_stg6_0 (v2 m c)) := by
  unfold Ins; rw [bigSep_univ_eq_bigSepL [0, 1, 2, 3, 4, 5, 6] (by decide) (by decide)]; rfl

theorem pre_intro : bodyPre m c ⊢ iprop((∃ K, known m K) ∗ St m c (Early c 0) 0 0 (outFree c)) := by
  unfold bodyPre Φ₀ start St Early Greet outFree
  simp only [staged0, staged1, staged2, staged3, staged4, staged5, staged6, at'_eq]
  rw [ins_eq]
  iintro ⟨⟨⟨HK, Ht, Hi, Hs⟩, Hg, Hr⟩, Ho, ⟨%_, H0⟩, ⟨%_, H1⟩, ⟨%_, H2⟩, ⟨%_, H3⟩, ⟨%_, H4⟩, ⟨%_, H5⟩, ⟨%_, H6⟩, ⟨%_, H7⟩⟩
  unfold Dat.owesAt Pipeline.owesWithin
  icases Ho with ⟨%W, %hW, HO⟩
  isplitl [HK]; · iexact HK
  isplitl [Ht Hi Hs Hg HO]
  · isplitr [Hs]
    · isplitr [Hi]
      · isplitl [HO]
        · iexists W; iexact HO
        · iapply (sep_join (Finset.Ico 0 7) (fun n => (dutyTok ER (barCell (peer c (dec n).2)) 0 (dec n).2.rev : sProp 𝕄)) (fun n => give (F := F) c (dec n).2))
          isplitl [Ht] <;> iassumption
      · iexact Hi
    · iexact Hs
  isplitl [Hr]; · iexact Hr
  isplitr [H7]
  · isplitl [H0]; · iexact H0
    isplitl [H1]; · iexact H1
    isplitl [H2]; · iexact H2
    isplitl [H3]; · iexact H3
    isplitl [H4]; · iexact H4
    isplitl [H5]; · iexact H5
    iexact H6
  · iexists _; iexact H7

theorem post_intro : St m c (Late m c 21) 21 3 (outDone m c) ⊢ bodyPost m c := by
  unfold bodyPost Φ₁ St Late Drain outDone
  simp only [at'_eq]
  rw [ins_eq]
  iintro ⟨⟨⟨⟨%W, HO⟩, -, Hd⟩, Hf, Hb⟩, Hr, ⟨H0, H1, H2, H3, H4, H5, H6⟩, H7⟩
  isplitl [Hd Hf Hb Hr]
  · isplitl [Hd]; · iexact Hd
    isplitl [Hf]; · iexact Hf
    isplitl [Hb]; · iexact Hb
    iexact Hr
  isplitl [HO]
  · unfold Dat.owesAt Pipeline.owesWithin
    iexists W
    isplitr
    · ipureintro; exact fun _ _ => Or.inl trivial
    · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_run : bodyPre m c ⊢ run c (atBufs (cc0_body (F := F))) (fun _ => bodyPost m c) := by
  iintro H
  ihave H := (pre_intro m c) $$ H
  icases H with ⟨⟨%K, #HK⟩, HS⟩
  iapply (body (m := m) (K := K) (c := c) (fun _ => bodyPost m c)) $$ [HS]
  · isplitr; · iexact HK
    iexact HS
  iintro %x %_ HS
  iapply (post_intro m c) $$ HS

omit [FloatOps F] in
theorem windows (Φ : Fin cfg0.W → sProp 𝕄) : bigSep Finset.univ Φ = iprop(Φ (0 : Fin 8) ∗ Φ (1 : Fin 8) ∗ Φ (2 : Fin 8) ∗ Φ (3 : Fin 8)
    ∗ Φ (4 : Fin 8) ∗ Φ (5 : Fin 8) ∗ Φ (6 : Fin 8) ∗ Φ (7 : Fin 8)) := bigSep_W0 Φ

set_option maxRecDepth 16000 in
/-- The library's body obligation on device `c`. -/
theorem body_obligation : BodyObligation (dats (F := F) m 0 c) (defs₀ (F := F)) 𝒱₀ () Set.univ := fun t => by
  rw [fin_N0 t]
  rw [windows, windows]
  simp only [owns_whole_eq]
  show bodyPre m c ⊢ wp frame (wpE (defs₀ (F := F)) 𝒱₀ (c : Thread nD τ) none) Set.univ (atBufs (cc0_body (F := F))) (fun _ => bodyPost m c)
  exact body_run m c

end Body

end Cert.MeshMlp
-- ==== Proof.Launch.lean ====
/-
The run of the whole program on the eight devices.

The launch hands every device its share of the cells' ghost state; the tokens of the duties a device pays are those
minted at its peers' cells. The body takes these to the closed cells, and every final state has each device's result
array at the computed contents, the arguments unchanged and every semaphore counter at zero.
-/
module

public import proofs.«01_k».proof.Proof.Run
public import Idealize.ShloMosaic.Lib.Pipeline.CollectiveSegs

@[expose] public section

noncomputable section

namespace Cert.MeshMlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

/-- The call's own semaphores: the sends' and the receives'. -/
abbrev osem (x : Bool × P) : SemLoc sig := csem (some x)

theorem sem_apart (a b : Bool × P) (h : osem a = osem b) : a = b := by
  rcases a with ⟨_ | _, p⟩ <;> rcases b with ⟨_ | _, p'⟩ <;>
    · have hv := congrArg Fin.val (SemLoc.dma.inj h)
      have := pos_lt p; have := pos_lt p'
      simp only [sendS, recvS] at hv
      first
        | omega
        | rw [pos_inj (p := p) (q := p') (by omega)]

theorem csem_injective : Function.Injective csem := by
  rintro (_ | a) (_ | b) h
  · rfl
  · rcases b with ⟨_ | _, p⟩ <;> cases h
  · rcases a with ⟨_ | _, p⟩ <;> cases h
  · rw [sem_apart a b h]

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

theorem ownSemFacts : Pipeline.OwnSemFacts cfg0.spec osem where
  isScoped := by decide
  inj a b h := sem_apart a b h
  disj k w s h := by
    have hs : ∀ (w : Fin 8) (s : Fin (cfg0.spec w).nbuf), ((cfg0.spec w).sem s).val < 8 := by decide
    have := hs w s
    rcases k with ⟨_ | _, p⟩ <;>
      · have hv := congrArg Fin.val (SemLoc.dma.inj h)
        simp only [sendS, recvS] at hv
        omega

def ringCells : Finset (GSem nD τ sig) := Finset.univ.map ⟨kcell, kcell_injective⟩

/-- A device's duty tokens as minted: its barrier's seven, one per send, one per receive. -/
abbrev tokOf (x : Dev nD × (Fin 7 ⊕ (P ⊕ P))) : GSem nD τ sig × ℕ × Fin 7 := match x.2 with
  | .inl d => (barCell x.1, 0, d)
  | .inr (.inl p) => (sendCell x.1 p, 0, 0)
  | .inr (.inr p) => (recvCell x.1 p, 0, 0)

theorem tokOf_injective : Function.Injective tokOf := by
  rintro ⟨c, j⟩ ⟨c', j'⟩ h
  have key : ∀ k k' : CI, ∀ d d' : Fin 7, ((kcell (c, k), 0, d) : GSem nD τ sig × ℕ × Fin 7) = (kcell (c', k'), 0, d') → c = c' ∧ k = k' ∧ d = d' :=
    fun k k' d d' e => by
      have h1 := kcell_injective (congrArg Prod.fst e)
      exact ⟨congrArg Prod.fst h1, congrArg Prod.snd h1, congrArg (fun x : GSem nD τ sig × ℕ × Fin 7 => x.2.2) e⟩
  rcases j with d | p | p <;> rcases j' with d' | p' | p'
  · obtain ⟨rfl, -, rfl⟩ := key none none d d' h; rfl
  · obtain ⟨-, e, -⟩ := key none (some (false, p')) d 0 h; cases e
  · obtain ⟨-, e, -⟩ := key none (some (true, p')) d 0 h; cases e
  · obtain ⟨-, e, -⟩ := key (some (false, p)) none 0 d' h; cases e
  · obtain ⟨rfl, e, -⟩ := key (some (false, p)) (some (false, p')) 0 0 h; cases e; rfl
  · obtain ⟨-, e, -⟩ := key (some (false, p)) (some (true, p')) 0 0 h; cases e
  · obtain ⟨-, e, -⟩ := key (some (true, p)) none 0 d' h; cases e
  · obtain ⟨-, e, -⟩ := key (some (true, p)) (some (false, p')) 0 0 h; cases e
  · obtain ⟨rfl, e, -⟩ := key (some (true, p)) (some (true, p')) 0 0 h; cases e; rfl
def ringToks : Finset (GSem nD τ sig × ℕ × Fin 7) := Finset.univ.map ⟨tokOf, tokOf_injective⟩

def u₀ : UU :=
  (initOf (Pipeline.cells cfgs cellOf_inj) (Pipeline.launchToks cfgs cellOf_inj), initOf ringCells ringToks)

/-- The duty tokens of device `c`'s own cells; -/
def toks (c : Dev nD) : sProp 𝕄 :=
  iprop((bigSep Finset.univ fun k : Fin 7 => dutyTok ER (barCell c) 0 k) ∗ (bigSep Finset.univ fun p : P => dutyTok ER (sendCell c p) 0 0)
    ∗ bigSep Finset.univ fun p : P => dutyTok ER (recvCell c p) 0 0)
/-- those of the duties it pays. -/
def payToks (c : Dev nD) : sProp 𝕄 :=
  iprop((bigSep Finset.univ fun k : Fin 7 => dutyTok ER (barCell (peer c k)) 0 k.rev) ∗ (bigSep Finset.univ fun p : P => dutyTok ER (sendCell c p) 0 0)
    ∗ bigSep Finset.univ fun p : P => dutyTok ER (recvCell (peer c p.2) (p.1, p.2.rev)) 0 0)

/-- A pair of a device and a peer of it, seen from the peer. -/
def swap : Dev nD × Fin 7 ≃ Dev nD × Fin 7 where
  toFun x := (peer x.1 x.2, x.2.rev)
  invFun x := (peer x.1 x.2, x.2.rev)
  left_inv x := Prod.ext (peer_rev x.1 x.2) (Fin.rev_rev x.2)
  right_inv x := Prod.ext (peer_rev x.1 x.2) (Fin.rev_rev x.2)
def swapP : Dev nD × P ≃ Dev nD × P where
  toFun x := (peer x.1 x.2.2, (x.2.1, x.2.2.rev))
  invFun x := (peer x.1 x.2.2, (x.2.1, x.2.2.rev))
  left_inv x := Prod.ext (peer_rev x.1 x.2.2) (Prod.ext rfl (Fin.rev_rev x.2.2))
  right_inv x := Prod.ext (peer_rev x.1 x.2.2) (Prod.ext rfl (Fin.rev_rev x.2.2))

omit [FloatOps F] in
theorem around (f : Dev nD → Fin 7 → sProp 𝕄) : (bigSep Finset.univ fun c : Dev nD => bigSep Finset.univ fun k => f c k)
    = bigSep Finset.univ fun c : Dev nD => bigSep Finset.univ fun k => f (peer c k) k.rev := by
  rw [← bigSep_univ_prod (fun x : Dev nD × Fin 7 => f x.1 x.2), bigSep_univ_equiv swap, bigSep_univ_prod]; rfl
omit [FloatOps F] in
theorem aroundP (f : Dev nD → P → sProp 𝕄) : (bigSep Finset.univ fun c : Dev nD => bigSep Finset.univ fun p : P => f c p)
    = bigSep Finset.univ fun c : Dev nD => bigSep Finset.univ fun p : P => f (peer c p.2) (p.1, p.2.rev) := by
  rw [← bigSep_univ_prod (fun x : Dev nD × P => f x.1 x.2), bigSep_univ_equiv swapP, bigSep_univ_prod]; rfl

omit [FloatOps F] in
theorem toks_around : (bigSep Finset.univ fun c : Dev nD => (toks c : sProp 𝕄)) = bigSep Finset.univ fun c : Dev nD => payToks c := by
  unfold toks payToks
  rw [bigSep_sep', bigSep_sep', bigSep_sep', bigSep_sep', around fun (c : Dev nD) (k : Fin 7) => (dutyTok ER (barCell c) 0 k : sProp 𝕄),
    aroundP fun (c : Dev nD) (p : P) => (dutyTok ER (recvCell c p) 0 0 : sProp 𝕄)]

/-! ## The global step -/

def kinds : Unit ⊕ (P ⊕ P) ≃ CI where
  toFun | .inl _ => none | .inr (.inl p) => some (false, p) | .inr (.inr p) => some (true, p)
  invFun | none => .inl () | some (false, p) => .inr (.inl p) | some (true, p) => .inr (.inr p)
  left_inv x := by rcases x with _ | _ | _ <;> rfl
  right_inv x := by rcases x with _ | ⟨_ | _, _⟩ <;> rfl

omit [FloatOps F] in
/-- A device's cells one kind after the other. -/
theorem bigSep_cells (Φ : CI → sProp 𝕄) : bigSep Finset.univ Φ
    = iprop(Φ none ∗ (bigSep Finset.univ fun p : P => Φ (some (false, p))) ∗ bigSep Finset.univ fun p : P => Φ (some (true, p))) := by
  rw [bigSep_univ_equiv kinds, BI.bigSep_univ_sum, BI.bigSep_univ_sum, bigSep_univ_eq_bigSepL [()] (by decide) (by decide)]; rfl

/-- What the launch element deals device `c`. -/
def G (c : Dev nD) : sProp 𝕄 :=
  iprop((bigSep Finset.univ fun k : CI => roundState ER (sched m) (kcell (c, k)) 0)
    ∗ (bigSep Finset.univ fun k : CI => iprop(atPos ER (kcell (c, k)) 0 ∅ 0 ∗ reached ER (kcell (c, k)) 0)) ∗ toks c)

/-- What the global step makes of it. -/
def G' (c : Dev nD) : sProp 𝕄 :=
  iprop((∃ K : Dev nD × CI → ℕ, bigSep Finset.univ fun x => iprop(cellInv ER (sched m) (K x) (kcell x) ∗ reached ER (kcell x) 0))
    ∗ (bigSep Finset.univ fun k : CI => atPos ER (kcell (c, k)) 0 ∅ 0) ∗ payToks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [BI.bigSep_univ_sum, BI.bigSep_univ_sum]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

abbrev ownSems (c : Dev nD) : sProp 𝕄 := Pipeline.ownSems0 (Ix := Unit) (Name := ℕ) (U := UU) (Lvl := ℕ) (Val := Elt F) (τ := τ) osem c

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem ownSems0_eq (c : Dev nD) : ownSems (F := F) c
    = iprop((bigSep Finset.univ fun p : P => semVal (sendCell c p) 0) ∗ bigSep Finset.univ fun p : P => semVal (recvCell c p) 0) := by
  unfold ownSems Pipeline.ownSems0
  rw [bigSep_univ_prod, bigSep_univ_eq_bigSepL [false, true] (by decide) (by decide)]; rfl

omit [FloatOps F] in
theorem sems0_eq (c : Dev nD) : iprop(ownSems (F := F) c ∗ unscopedSems0 c) ⊢ (bigSep Finset.univ fun k : CI => semVal (kcell (c, k)) 0 : sProp 𝕄) := by
  rw [ownSems0_eq, unscopedSems0_eq, bigSep_cells]
  iintro ⟨⟨HS, HV⟩, HB⟩
  isplitl [HB]; · iexact HB
  isplitl [HS] <;> iassumption

theorem core_alloc (c : Dev nD) :
    iprop(ownSems (F := F) c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant and its round reached. -/
def records (K : Dev nD × CI → ℕ) : sProp 𝕄 := bigSep Finset.univ fun x => iprop(cellInv ER (sched m) (K x) (kcell x) ∗ reached ER (kcell x) 0)

instance records_persistent (K : Dev nD × CI → ℕ) : BI.Persistent (records m K) := by unfold records; infer_instance

/-- What is device `c`'s alone. -/
def linear (c : Dev nD) : sProp 𝕄 := iprop((bigSep Finset.univ fun k : CI => atPos ER (kcell (c, k)) 0 ∅ 0) ∗ payToks c)

theorem ghost_intro (K : Dev nD × CI → ℕ) (c : Dev nD) : iprop(records m K ∗ linear c) ⊢ G' m c := by
  unfold records linear G'
  iintro ⟨HR, Ha, Ht⟩
  isplitl [HR]; · iexists K; iexact HR
  isplitl [Ha] <;> iassumption

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CI => iprop(∃ κ : ℕ, cellInv ER (sched m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄)), toks_around]
  iintro ⟨HI, ⟨Hat, #HR⟩, Htk⟩
  ihave HK := (BI.bigSep_exists_pi Finset.univ (fun (ck : Dev nD × CI) (κ : ℕ) => (cellInv ER (sched m) κ (kcell ck) : sProp 𝕄))) $$ HI
  icases HK with ⟨%K, #HI⟩
  iapply (bigSep_with_persistent (R := records m K) fun c _ => ghost_intro m K c)
  isplitr
  · unfold records
    iapply (sep_join Finset.univ _ _)
    isplitr; · iexact HI
    iexact HR
  · unfold linear
    iapply (sep_join Finset.univ _ _)
    isplitl [Hat]; · iexact Hat
    iexact Htk

/-- The global step: own and unscoped semaphores of every device at once. -/
theorem glob : (bigSep Finset.univ fun c => iprop(ownSems (F := F) c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
theorem cred_bar (c : Dev nD) : (bigSep (Finset.Ico 0 7) fun _ => cred (tallyAt (barCell c) () 1) : sProp 𝕄) ⊢ cred (tallyAt (barCell c) () 7) := by
  rw [← Pipeline.cred_finsetSum]
  refine Entails.of_eq (congrArg cred ?_)
  have h : ∀ s : Finset ℕ, (∑ _ ∈ s, tallyAt (barCell c) () 1 : CellTallies nD τ sig Unit) = tallyAt (barCell c) () s.card := fun s => by
    induction s using Finset.induction_on with
    | empty => rw [Finset.sum_empty, Finset.card_empty]; unfold tallyAt; rw [Finsupp.single_zero, tallyOn_zero]
    | insert a s ha ih => rw [Finset.sum_insert ha, ih, tallyAt_add, Finset.card_insert_of_notMem ha, Nat.add_comm]
  exact h _

omit [FloatOps F] in
theorem creds (c : Dev nD) : (Pipeline.launchCred O₀ c : sProp 𝕄)
    ⊢ iprop(cred (tallyAt (barCell c) () 7) ∗ bigSep (Finset.Ico 0 21) fun n => cred (tallyAt (recvCell c (dec n)) () N)) := by
  have e : (O₀ : Dev nD → CellTallies nD τ sig Unit) = fun d => (∑ n ∈ Finset.Ico 0 21, tallyAt (recvCell (peer d (dec n).2) ((dec n).1, (dec n).2.rev)) () N)
      + ∑ n ∈ Finset.Ico 0 7, tallyAt (barCell (peer d (dec n).2)) () 1 := rfl
  rw [e, Pipeline.launchCred_add (fun d => ∑ n ∈ Finset.Ico 0 21, tallyAt (recvCell (peer d (dec n).2) ((dec n).1, (dec n).2.rev)) () N),
    Pipeline.launchCred_sum _ fun n d => tallyAt (recvCell (peer d (dec n).2) ((dec n).1, (dec n).2.rev)) () N,
    Pipeline.launchCred_sum _ fun n d => tallyAt (barCell (peer d (dec n).2)) () 1]
  have back (k : Fin 7) (d : Dev nD) : peer (peer d k.rev) k = d := by have := peer_rev d k.rev; rwa [Fin.rev_rev] at this
  iintro ⟨H1, H2⟩
  isplitl [H2]
  · iapply (cred_bar (F := F) c)
    iapply (show (bigSep (Finset.Ico 0 7) fun n => (Pipeline.launchCred (fun d => tallyAt (barCell (peer d (dec n).2)) () 1) c : sProp 𝕄))
        ⊢ bigSep (Finset.Ico 0 7) fun _ => cred (tallyAt (barCell c) () 1) from
      bigSep_mono fun n _ => Pipeline.launchCred_tallyAt (.reg barS) (fun d => peer d (dec n).2) (fun d => peer d (dec n).2.rev)
        (back _) (fun d => peer_rev d _) () 1 c) $$ H2
  · rw [← bigSep_pos fun p => (cred (tallyAt (recvCell c p) () N) : sProp 𝕄),
      bigSep_univ_equiv (Equiv.prodCongr (Equiv.refl (Fin 3)) Fin.revPerm) fun p => (cred (tallyAt (recvCell c p) () N) : sProp 𝕄),
      bigSep_pos]
    iapply (show (bigSep (Finset.Ico 0 21) fun n => (Pipeline.launchCred (fun d => tallyAt (recvCell (peer d (dec n).2) ((dec n).1, (dec n).2.rev)) () N) c : sProp 𝕄))
        ⊢ bigSep (Finset.Ico 0 21) fun n => cred (tallyAt (recvCell c ((dec n).1, (dec n).2.rev)) () N) from
      bigSep_mono fun n _ => Pipeline.launchCred_tallyAt (.dma (recvS ((dec n).1, (dec n).2.rev))) (fun d => peer d (dec n).2) (fun d => peer d (dec n).2.rev)
        (back _) (fun d => peer_rev d _) () N c) $$ H1

/-! ## The theorem's side conditions -/

theorem start_of (c : Dev nD) : iprop(G' m c ∗ levAts L lv ∗ Pipeline.launchCred O₀ c) ⊢ start m c := by
  unfold G' payToks start known Idle sendsAt
  rw [bigSep_cells, bigSep_pos fun p => (atPos ER (kcell (c, some (false, p))) 0 ∅ 0 : sProp 𝕄), bigSep_pos fun p => (atPos ER (kcell (c, some (true, p))) 0 ∅ 0 : sProp 𝕄),
    bigSep_seven, bigSep_pos fun p => (dutyTok ER (sendCell c p) 0 0 : sProp 𝕄), bigSep_pos fun p => (dutyTok ER (recvCell (peer c p.2) (p.1, p.2.rev)) 0 0 : sProp 𝕄)]
  iintro ⟨⟨⟨%K, HK⟩, ⟨HaB, HaS, HaR⟩, HtB, HtS, HtR⟩, HL, Hc⟩
  ihave Hc := (creds (F := F) c) $$ Hc
  icases Hc with ⟨HcB, HcR⟩
  isplitl [HK HL]
  · iexists K
    isplitl [HK]; · iexact HK
    iexact HL
  isplitl [HtB]; · iexact HtB
  isplitr [HaS]
  · isplitl [HaB]; · iexact HaB
    isplitl [HcB]; · iexact HcB
    isplitl [HtS HtR]
    · iapply (sep_join (Finset.Ico 0 21) (fun n => (dutyTok ER (sendCell c (dec n)) 0 0 : sProp 𝕄)) (fun n => dutyTok ER (landing c n) 0 0))
      isplitl [HtS]; · iexact HtS
      iexact HtR
    · iapply (sep_join (Finset.Ico 0 21) (fun n => (atPos ER (recvCell c (dec n)) 0 ∅ 0 : sProp 𝕄)) (fun n => cred (tallyAt (recvCell c (dec n)) () N)))
      isplitl [HaR]; · iexact HaR
      iexact HcR
  · iexact HaS

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, HL, Hc, -, HG⟩
  imodintro
  isplitl
  · iapply (start_of m c)
    isplitl [HG]; · iexact HG
    isplitl [HL] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, H0, H1⟩
  isplitl [Hs]; · iexact Hs
  isplitl [H0]
  · iapply (slots_start (F := F) c) $$ H0
  · iapply (rows_start m c) $$ H1

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, scopedRest0_eq, show Pipeline.ownSems0 osem c = _ from ownSems0_eq (F := F) c, unscopedSems0_eq,
    bigSep_pos fun p => (semVal (sendCell c p) 0 : sProp 𝕄), bigSep_pos fun p => (semVal (recvCell c p) 0 : sProp 𝕄)]
  unfold Φ₁ Filled
  iintro ⟨Hd, Hf, HB, Hr⟩
  ihave Hd := (sep_part (Finset.Ico 0 21) (fun n => (semVal (sendCell c (dec n)) 0 : sProp 𝕄)) (fun n => sendPay m c (dec n))) $$ Hd
  icases Hd with ⟨HS, Hp⟩
  ihave Hf := (sep_part (Finset.Ico 0 21) (fun n => (semVal (recvCell c (dec n)) 0 : sProp 𝕄)) (fun n => recvPay m c (dec n))) $$ Hf
  icases Hf with ⟨HV, Hq⟩
  isplitl [HB]; · iexact HB
  isplitl [HS HV]
  · isplitl [HS] <;> iassumption
  isplitl [Hq]
  · iapply (slots_end m c) $$ Hq
  · iapply (rows_end m c)
    isplitl [Hr] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

theorem share_eq (c : Dev nD) (w : Fin cfg0.W) : (dats m 0 c).share w = fullShare := by unfold Dat.share; split <;> rfl

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with zero counters, every weakly fair execution of the program terminates, and every final state
    has each window's array at its contents after the call and every semaphore counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.MeshMlp
-- ==== Proof.Product.lean ====
/-
One layer at the ideal values: the eight partial products, over eight blocks of the hidden columns, add up to the
product over all of them.
-/
module

public import proofs.«01_k».proof.Proof.Cells
public import proofs.«01_k».proof.Proof.Gen.ReferenceIdeal
public import Idealize.ShloMosaic.Lib.MatmulPlain
public import Idealize.ShloMosaic.Lib.StackMember
public import Idealize.ShloMosaic.Lib.IdealHost
public import Idealize.ShloMosaic.Lib.KernelVsHost
public import Idealize.ShloMosaic.Lib.Layout

@[expose] public section

noncomputable section

namespace Cert.MeshMlp

open Cert.KernelIdeal Cert.KernelIdeal.Gen
open Idealize.ShloMosaic Idealize.ShloMosaic.ValueIdx
open scoped BigOperators

/-! ## The partial product read at an index -/

/-- Row `r`, column `j` of a two-layer product with hidden width `K`: the sum over the hidden columns. -/
def hidden {K : ℕ} (x : FVec Ideal S64x512 .bf16) (W : FVec Ideal ⟨2, ![512, K]⟩ .bf16) (V : FVec Ideal ⟨2, ![K, 512]⟩ .bf16)
    (r : Fin 64) (j : Fin 512) (k : Fin K) : EReal :=
  max (∑ i : Fin 512, x (ix2 r i) * W (ix2 i k)) 0 * V (ix2 k j)

theorem pay_apply (x : FVec Ideal S64x512 .bf16) (w : FVec Ideal S512x1024 .bf16) (v : FVec Ideal S1024x512 .bf16)
    (r : Fin 64) (j : Fin 512) : k0_pay1 (F := Ideal) x w v (ix2 r j) = ∑ k : Fin 1024, hidden x w v r j k := by
  unfold k0_pay1
  rw [shapeCast_self, shapeCast_self, shapeCast_self]
  refine (Ideal.matmul_plain_apply (M := 64) (K := 1024) (N := 512) none _ v _ r j).trans ?_
  rw [show (constant S64x512 .f32 0x00000000#32 : FVec Ideal S64x512 .f32) (ix2 r j) = 0 from Ideal.ofBits_zero_f32, zero_add]
  refine Finset.sum_congr rfl fun k _ => ?_
  refine congrArg (· * v (ix2 k j)) ?_
  show max (FloatOps.matmul (DotDims.plain 64 512 1024) none x w (constant S64x1024 .f32 0x00000000#32) (ix2 r k)) (Ideal.ofBits .f32 0x00000000#32) = _
  rw [Ideal.matmul_plain_apply, Ideal.ofBits_zero_f32]
  rw [show (constant S64x1024 .f32 0x00000000#32 : FVec Ideal S64x1024 .f32) (ix2 r k) = 0 from Ideal.ofBits_zero_f32, zero_add]

/-! ## The whole layer -/

/-- One layer as the reference writes it. -/
def layer (x : FVec Ideal S64x512 .bf16) (W : FVec Ideal ⟨2, ![512, 8192]⟩ .bf16) (V : FVec Ideal ⟨2, ![8192, 512]⟩ .bf16) :
    FVec Ideal S64x512 .bf16 :=
  truncf .bf16 (Host.dotGeneral Cert.ReferenceIdeal.dot_S64x8192_S8192x512_S64x512_1_0_0_1_n_n none
    (maximumf (truncf .bf16 (Host.dotGeneral Cert.ReferenceIdeal.dot_S64x512_S512x8192_S64x8192_1_0_0_1_n_n none x W)
        Cert.ReferenceIdeal.Facts₀.bitsLt_bf16_f32)
      (broadcastInDim Cert.ReferenceIdeal.S64x8192 ![] Cert.ReferenceIdeal.Facts₀.bcast_S_S64x8192
        (constant Cert.ReferenceIdeal.S_ .bf16 0x0000#16))) V) Cert.ReferenceIdeal.Facts₀.bitsLt_bf16_f32

theorem layer_apply (x : FVec Ideal S64x512 .bf16) (W : FVec Ideal ⟨2, ![512, 8192]⟩ .bf16) (V : FVec Ideal ⟨2, ![8192, 512]⟩ .bf16)
    (r : Fin 64) (j : Fin 512) : layer x W V (ix2 r j) = ∑ k : Fin 8192, hidden x W V r j k := by
  refine (StackMember.dotGeneral_plain_apply (m := 64) (k := 8192) (n := 512) none _ V r j).trans ?_
  refine Finset.sum_congr rfl fun k _ => ?_
  refine congrArg (· * V (ix2 k j)) ?_
  show max (Host.dotGeneral (DotDims.plain 64 512 8192) none x W (ix2 r k)) (Ideal.ofBits .bf16 0x0000#16) = _
  rw [StackMember.dotGeneral_plain_apply, Ideal.ofBits_zero_bf16]

/-! ## The blocks -/

/-- A sum over the hidden columns, block by block. -/
theorem sum_blocks (f : Fin 8192 → EReal) :
    ∑ k : Fin 8192, f k = ∑ d : Fin 8, ∑ k : Fin 1024, f ⟨d.val * 1024 + k.val, by omega⟩ := by
  rw [← Fintype.sum_prod_type', ← Equiv.sum_comp (finProdFinEquiv (m := 8) (n := 1024)) f]
  refine Finset.sum_congr rfl fun p _ => congrArg f (Fin.ext ?_)
  show p.2.val + 1024 * p.1.val = p.1.val * 1024 + p.2.val
  omega

/-- The hidden columns device `d` holds are block `d` of the whole ones. -/
theorem hidden_block (x : FVec Ideal S64x512 .bf16) (W : FVec Ideal ⟨2, ![512, 8192]⟩ .bf16) (V : FVec Ideal ⟨2, ![8192, 512]⟩ .bf16)
    (r : Fin 64) (j : Fin 512) (d : Fin 8) (k : Fin 1024) :
    hidden x (Layout.block ⟨2, ![512, 1024]⟩ ⟨2, ![512, 8192]⟩ 1 8 d W) (Layout.block ⟨2, ![1024, 512]⟩ ⟨2, ![8192, 512]⟩ 0 8 d V) r j k
      = hidden x W V r j ⟨d.val * 1024 + k.val, by omega⟩ := by
  have hW : ∀ i : Fin 512, Layout.block ⟨2, ![512, 1024]⟩ ⟨2, ![512, 8192]⟩ 1 8 d W (by decide) (ix2 i k)
      = W (ix2 i ⟨d.val * 1024 + k.val, by omega⟩) := fun i => congrArg W (funext fun a => match a with
    | ⟨0, _⟩ => rfl
    | ⟨1, _⟩ => rfl)
  have hV : Layout.block ⟨2, ![1024, 512]⟩ ⟨2, ![8192, 512]⟩ 0 8 d V (by decide) (ix2 k j)
      = V (ix2 ⟨d.val * 1024 + k.val, by omega⟩ j) := congrArg V (funext fun a => match a with
    | ⟨0, _⟩ => rfl
    | ⟨1, _⟩ => rfl)
  unfold hidden
  rw [hV]
  simp only [hW]

/-- The eight partial products add up to the layer. -/
theorem sum_pay (x : FVec Ideal S64x512 .bf16) (W : FVec Ideal ⟨2, ![512, 8192]⟩ .bf16) (V : FVec Ideal ⟨2, ![8192, 512]⟩ .bf16)
    (r : Fin 64) (j : Fin 512) :
    ∑ d : Fin 8, k0_pay1 (F := Ideal) x (Layout.block ⟨2, ![512, 1024]⟩ ⟨2, ![512, 8192]⟩ 1 8 d W)
        (Layout.block ⟨2, ![1024, 512]⟩ ⟨2, ![8192, 512]⟩ 0 8 d V) (ix2 r j)
      = layer x W V (ix2 r j) := by
  rw [layer_apply, sum_blocks]
  refine Finset.sum_congr rfl fun d _ => ?_
  rw [pay_apply]
  exact Finset.sum_congr rfl fun k _ => hidden_block x W V r j d k

/-! ## The received summands -/

/-- A sum over the devices: one's own term and the seven of its peers, in the order they are added. -/
theorem sum_peers (f : Fin 8 → EReal) (c : Fin 8) :
    f c + f (peer c 0) + f (peer c 1) + f (peer c 2) + f (peer c 3) + f (peer c 4) + f (peer c 5) + f (peer c 6) = ∑ d : Fin 8, f d := by
  have e : ∀ d : Fin 8, ∃ p : Equiv.Perm (Fin 8), ∀ n : Fin 8, p n = if h : n = 0 then d else peer d (n.pred h) := fun d =>
    ⟨Equiv.addRight d, fun n => by revert d n; decide⟩
  obtain ⟨p, hp⟩ := e c
  rw [← Equiv.sum_comp p f, Fin.sum_univ_eight]
  simp only [hp]
  rfl

/-- The sum a device ends a layer with is the sum of every device's partial product. -/
theorem gather_apply (q : Dev nD → FVec Ideal S64x512 .f32) (c : Dev nD) (i : S64x512.Idx) :
    gather q c 7 i = ∑ d : Fin 8, q d i := by
  rw [← sum_peers (fun d => q d i) c]
  rfl

end Cert.MeshMlp

end
-- ==== Proof.Value.lean ====
/-
What the program's result array holds after the run, and its value at the ideal values: the reference's three layers.
-/
module

public import proofs.«01_k».proof.Proof.Launch
public import proofs.«01_k».proof.Proof.Product
public import Idealize.ShloMosaic.Lib.Pipeline.ValueKit.Geometry

@[expose] public section

noncomputable section

namespace Cert.MeshMlp

open Cert.KernelIdeal Cert.KernelIdeal.Gen
open Idealize.ShloMosaic Idealize.ShloMosaic.TcCoe Idealize.ShloMosaic.ValueIdx
open Idealize.SL.Sem
open Idealize.ShloMosaic.Pipeline (Dat)

/-! ## The arrays after the run -/

section Arrays
variable {F : FTy → Type} [FloatOps F] (m : (ℓ : Loc nD τ sig) → Buf (Elt F) ℓ) (ρ : Dev nD → PrngReg)

/-- The call's one point writes the whole result. -/
theorem whole_out : (cfg0.win (7 : Fin 8)).WholeAt t0_0 :=
  (by decide +kernel : (win0_7 : Pipeline.Window sig grid0).WholeAt t0_0)

/-- The result array ends holding the last layer's rounded sum. -/
theorem final_out (c : Dev nD) : (dats m 0 c).arrAt (7 : Fin 8) cfg0.N = act m 3 c :=
  (dats m 0 c).arrAt_eq_of_after_last (7 : Fin 8) t0_0 whole_out (act m 3 c) fun _ => rfl

/-- After the run every device's result is the last layer's rounded sum, the arguments are unchanged and every counter
    is zero. -/
theorem run_values : θ_run defs (onTc (τ := τ) (main (F := F))) ⟨m, fun _ => 0, ρ⟩ fun r =>
    (∀ c : Dev nD, r.2.mem ((c.tc : Thread nD τ).loc main_v1) = act m 3 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0 :=
  (θ_run defs _ _).mono (fun _ h => ⟨fun c =>
    ⟨(h.1 c (7 : Fin 8)).trans (final_out m c),
     (h.1 c (0 : Fin 8)).trans ((dats m 0 c).arrAt_in (0 : Fin 8) rfl _),
     (h.1 c (1 : Fin 8)).trans ((dats m 0 c).arrAt_in (1 : Fin 8) rfl _),
     (h.1 c (3 : Fin 8)).trans ((dats m 0 c).arrAt_in (3 : Fin 8) rfl _),
     (h.1 c (5 : Fin 8)).trans ((dats m 0 c).arrAt_in (5 : Fin 8) rfl _),
     (h.1 c (2 : Fin 8)).trans ((dats m 0 c).arrAt_in (2 : Fin 8) rfl _),
     (h.1 c (4 : Fin 8)).trans ((dats m 0 c).arrAt_in (4 : Fin 8) rfl _),
     (h.1 c (6 : Fin 8)).trans ((dats m 0 c).arrAt_in (6 : Fin 8) rfl _)⟩, h.2⟩) (run_main m ρ)

/-! ## A window of a whole array reads the array -/

theorem xin_eq (c : Dev nD) : xin m c = m ((c.tc : Thread nD τ).loc main_arg0) :=
  funext fun i => congrArg (m ((c.tc : Thread nD τ).loc main_arg0)) (funext fun a => Fin.ext (Pipeline.Window.rect_emb_val_of_index_zero win0_0 t0_0 a rfl i))
theorem w0_eq (c : Dev nD) : w0 m c = m ((c.tc : Thread nD τ).loc main_arg1) :=
  funext fun i => congrArg (m ((c.tc : Thread nD τ).loc main_arg1)) (funext fun a => Fin.ext (Pipeline.Window.rect_emb_val_of_index_zero win0_1 t0_0 a rfl i))

theorem v0_eq (c : Dev nD) : v0 m c = m ((c.tc : Thread nD τ).loc main_arg4) :=
  funext fun i => congrArg (m ((c.tc : Thread nD τ).loc main_arg4)) (funext fun a => Fin.ext (Pipeline.Window.rect_emb_val_of_index_zero win0_2 t0_0 a rfl i))

theorem w1_eq (c : Dev nD) : w1 m c = m ((c.tc : Thread nD τ).loc main_arg2) :=
  funext fun i => congrArg (m ((c.tc : Thread nD τ).loc main_arg2)) (funext fun a => Fin.ext (Pipeline.Window.rect_emb_val_of_index_zero win0_3 t0_0 a rfl i))

theorem v1_eq (c : Dev nD) : v1 m c = m ((c.tc : Thread nD τ).loc main_arg5) :=
  funext fun i => congrArg (m ((c.tc : Thread nD τ).loc main_arg5)) (funext fun a => Fin.ext (Pipeline.Window.rect_emb_val_of_index_zero win0_4 t0_0 a rfl i))

theorem w2_eq (c : Dev nD) : w2 m c = m ((c.tc : Thread nD τ).loc main_arg3) :=
  funext fun i => congrArg (m ((c.tc : Thread nD τ).loc main_arg3)) (funext fun a => Fin.ext (Pipeline.Window.rect_emb_val_of_index_zero win0_5 t0_0 a rfl i))

theorem v2_eq (c : Dev nD) : v2 m c = m ((c.tc : Thread nD τ).loc main_arg6) :=
  funext fun i => congrArg (m ((c.tc : Thread nD τ).loc main_arg6)) (funext fun a => Fin.ext (Pipeline.Window.rect_emb_val_of_index_zero win0_6 t0_0 a rfl i))

end Arrays

/-! ## The layers at the ideal values -/

section Layers
variable (m : (ℓ : Loc nD τ sig) → Buf (Elt Ideal) ℓ)

/-- If every device enters layer `l` with the same rows and its blocks of the two weights, it leaves with the layer. -/
theorem act_step (l : ℕ) (x : FVec Ideal S64x512 .bf16) (W : FVec Ideal ⟨2, ![512, 8192]⟩ .bf16) (V : FVec Ideal ⟨2, ![8192, 512]⟩ .bf16)
    (hx : ∀ d : Dev nD, act m l d = x) (hW : ∀ d : Dev nD, win m l d = Layout.block ⟨2, ![512, 1024]⟩ ⟨2, ![512, 8192]⟩ 1 8 d W)
    (hV : ∀ d : Dev nD, wout m l d = Layout.block ⟨2, ![1024, 512]⟩ ⟨2, ![8192, 512]⟩ 0 8 d V) (c : Dev nD) :
    act m (l + 1) c = layer x W V := by
  funext i
  obtain ⟨r, j, rfl⟩ : ∃ (r : Fin 64) (j : Fin 512), i = ix2 r j := ⟨i 0, i 1, eq_ix2 i⟩
  rw [← sum_pay]
  refine (gather_apply (fun d => k0_pay1 (act m l d) (win m l d) (wout m l d)) c (ix2 r j)).trans ?_
  refine Finset.sum_congr rfl fun d _ => ?_
  rw [hx d, hW d, hV d]

/-- The three layers on the whole weights. -/
theorem act_three (x : FVec Ideal S64x512 .bf16) (W₀ W₁ W₂ : FVec Ideal ⟨2, ![512, 8192]⟩ .bf16) (V₀ V₁ V₂ : FVec Ideal ⟨2, ![8192, 512]⟩ .bf16)
    (h : ∀ d : Dev nD, m ((d.tc : Thread nD τ).loc main_arg0) = x
      ∧ m ((d.tc : Thread nD τ).loc main_arg1) = Layout.block ⟨2, ![512, 1024]⟩ ⟨2, ![512, 8192]⟩ 1 8 d W₀
      ∧ m ((d.tc : Thread nD τ).loc main_arg2) = Layout.block ⟨2, ![512, 1024]⟩ ⟨2, ![512, 8192]⟩ 1 8 d W₁
      ∧ m ((d.tc : Thread nD τ).loc main_arg3) = Layout.block ⟨2, ![512, 1024]⟩ ⟨2, ![512, 8192]⟩ 1 8 d W₂
      ∧ m ((d.tc : Thread nD τ).loc main_arg4) = Layout.block ⟨2, ![1024, 512]⟩ ⟨2, ![8192, 512]⟩ 0 8 d V₀
      ∧ m ((d.tc : Thread nD τ).loc main_arg5) = Layout.block ⟨2, ![1024, 512]⟩ ⟨2, ![8192, 512]⟩ 0 8 d V₁
      ∧ m ((d.tc : Thread nD τ).loc main_arg6) = Layout.block ⟨2, ![1024, 512]⟩ ⟨2, ![8192, 512]⟩ 0 8 d V₂) (c : Dev nD) :
    act m 3 c = layer (layer (layer x W₀ V₀) W₁ V₁) W₂ V₂ := by
  have h₁ := act_step m 0 x W₀ V₀ (fun d => (xin_eq m d).trans (h d).1) (fun d => (w0_eq m d).trans (h d).2.1)
    fun d => (v0_eq m d).trans (h d).2.2.2.2.1
  have h₂ := act_step m 1 _ W₁ V₁ h₁ (fun d => (w1_eq m d).trans (h d).2.2.1) fun d => (v1_eq m d).trans (h d).2.2.2.2.2.1
  exact act_step m 2 _ W₂ V₂ h₂ (fun d => (w2_eq m d).trans (h d).2.2.2.1) (fun d => (v2_eq m d).trans (h d).2.2.2.2.2.2) c

end Layers

end Cert.MeshMlp

end
-- ==== Proof.Printed.lean ====
/-
The kernel as printed and the kernel read at the ideal values are the same text, hence the same program.
-/
module

public import proofs.«01_k».proof.Proof.Gen.Kernel
public import proofs.«01_k».proof.Proof.Value

@[expose] public section

noncomputable section

namespace Cert.MeshMlp

open Cert.KernelIdeal Cert.KernelIdeal.Gen
open Idealize.ShloMosaic

variable {F : FTy → Type} [FloatOps F]

set_option maxRecDepth 100000 in
theorem body_same : Cert.Kernel.cc0_body (F := F) = Cert.KernelIdeal.cc0_body (F := F) := by rfl

theorem callee_same : Cert.Kernel.defs₀ (F := F) = Cert.KernelIdeal.defs₀ (F := F) := by
  unfold Cert.Kernel.defs₀ Cert.KernelIdeal.defs₀
  refine congrArg Defs.onTc ?_
  funext l p
  obtain ⟨l, hl⟩ := l
  cases l with
  | zero => dsimp only; rw [body_same]
  | succ n => exact absurd hl (Nat.not_lt.2 (Nat.le_add_left _ _))

theorem defs_same : Cert.Kernel.defs (F := F) = Cert.KernelIdeal.defs (F := F) :=
  congrArg (Pipeline.defs (Cert.KernelIdeal.pcfgs (F := F))) callee_same

end Cert.MeshMlp

end
-- ==== Proof.lean ====
/-
The proof of `Cert.Claim`: the kernel's run (both as printed and at the ideal values), the reference's run, and the
agreement of their results at the ideal values. The runs are Proof/Launch.lean's and Proof/Value.lean's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Value
public import proofs.«01_k».proof.Proof.Printed
public import Idealize.ShloMosaic.Lib.Quiescent

@[expose] public section

noncomputable section

namespace Cert.Proof

open Idealize.ShloMosaic Idealize.SL.Sem Cert.MeshMlp

/-- The kernel at the ideal values runs, keeps its arguments and ends with every counter at zero. -/
theorem frame_ideal : Cert.quiescent_KernelIdeal := fun m ρ _ =>
  (θ_run Cert.KernelIdeal.defs _ _).mono (fun _ h => ⟨fun c => (h.1 c).2, h.2⟩) (run_values (F := Ideal) m ρ)

/-- So does the kernel as printed: the two programs are the same text. -/
theorem frame_printed : Cert.quiescent_Kernel := fun m ρ _ => by
  rw [defs_same]
  exact (θ_run Cert.KernelIdeal.defs _ _).mono (fun _ h => ⟨fun c => (h.1 c).2, h.2⟩) (run_values (F := Bits) m ρ)

/-- The reference runs and keeps its arguments; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is the reference's. -/
theorem values_agree : Cert.algebraic_KernelIdeal_ReferenceIdeal := fun m ρ m' ρ' _ h =>
  ⟨_, (θ_run Cert.KernelIdeal.defs _ _).mono
      (fun _ H c => ⟨((H.1 c).1).trans (act_three m _ _ _ _ _ _ _ h c), (H.1 c).2⟩) (run_values (F := Ideal) m ρ),
    (θ_run Cert.ReferenceIdeal.defs _ _).mono (fun _ H => H (0 : Dev Cert.ReferenceIdeal.nD))
      (Cert.ReferenceIdeal.Value.run (F := Ideal) m' ρ')⟩

theorem claim : Cert.Claim := ⟨Cert.Kernel.Gen.facts, Cert.KernelIdeal.Gen.facts, Cert.ReferenceIdeal.Gen.facts,
  frame_printed, frame_ideal, frame_reference, trivial, values_agree⟩

end Cert.Proof

end
